-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x256x4096 : Shape := ⟨3, ![64, 256, 4096]⟩
abbrev S_ : Shape := ⟨0, ![]⟩

class Facts : Prop where
  bcast_S_S64x256x4096 : S_.BroadcastsInDim S64x256x4096 (![] : Fin 0 → Fin S64x256x4096.rank)

variable [Facts]

def fn {F : FTy → Type} [FloatOps F] (main_arg0 : FVec F S64x256x4096 .f32) : IVec S64x256x4096 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  main_v2
-- ==== Kernel.lean ====
abbrev S64x256x4096 : Shape := ⟨3, ![64, 256, 4096]⟩
abbrev S16384x4096 : Shape := ⟨2, ![16384, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x1 : Shape := ⟨3, ![1, 256, 1]⟩
abbrev S16 : Shape := ⟨1, ![16]⟩
abbrev S1x1x16 : Shape := ⟨3, ![1, 1, 16]⟩
abbrev S16x1x1 : Shape := ⟨3, ![16, 1, 1]⟩
abbrev S16x1x16 : Shape := ⟨3, ![16, 1, 16]⟩
abbrev S16x256x16 : Shape := ⟨3, ![16, 256, 16]⟩
abbrev S1x1x256 : Shape := ⟨3, ![1, 1, 256]⟩
abbrev S1x16x1 : Shape := ⟨3, ![1, 16, 1]⟩
abbrev S16x1x256 : Shape := ⟨3, ![16, 1, 256]⟩
abbrev S16x16x256 : Shape := ⟨3, ![16, 16, 256]⟩
abbrev S4096 : Shape := ⟨1, ![4096]⟩
abbrev S1x4096 : Shape := ⟨2, ![1, 4096]⟩
abbrev S512x4096 : Shape := ⟨2, ![512, 4096]⟩
abbrev S512x1 : Shape := ⟨2, ![512, 1]⟩
abbrev S512x256 : Shape := ⟨2, ![512, 256]⟩
abbrev S1x256x16 : Shape := ⟨3, ![1, 256, 16]⟩
abbrev S256x16 : Shape := ⟨2, ![256, 16]⟩
abbrev S512x16 : Shape := ⟨2, ![512, 16]⟩
abbrev S1x16x256 : Shape := ⟨3, ![1, 16, 256]⟩
abbrev S16x256 : Shape := ⟨2, ![16, 256]⟩

abbrev nBuf : Space → Nat
  | .hbm => 282
  | .vmem => 8
  | .smem => 0
  | _ => 0

abbrev hbmTy0_0 (i : Nat) : BufTy := match i % 128 with
  | 0 => ⟨S64x256x4096, .f32⟩
  | 1 => ⟨S16384x4096, .f32⟩
  | 2 => ⟨S256, .i32⟩
  | 3 => ⟨S256x1, .i32⟩
  | 4 => ⟨S256, .i32⟩
  | 5 => ⟨S1x256, .i32⟩
  | 6 => ⟨S256x256, .i32⟩
  | 7 => ⟨S256x256, .i32⟩
  | 8 => ⟨S256x256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S_, .i32⟩
  | 21 => ⟨S256x256, .i32⟩
  | 22 => ⟨S256x256, .i1⟩
  | 23 => ⟨S_, .i32⟩
  | 24 => ⟨S_, .i1⟩
  | 25 => ⟨S256x256, .i1⟩
  | 26 => ⟨S256x256, .i1⟩
  | 27 => ⟨S256x256, .i1⟩
  | 28 => ⟨S256x256, .i32⟩
  | 29 => ⟨S256x256, .i32⟩
  | 30 => ⟨S256x256, .i32⟩
  | 31 => ⟨S_, .i32⟩
  | 32 => ⟨S256x256, .i32⟩
  | 33 => ⟨S256x256, .i1⟩
  | 34 => ⟨S_, .i32⟩
  | 35 => ⟨S256x256, .i32⟩
  | 36 => ⟨S256x256, .i1⟩
  | 37 => ⟨S256x256, .i1⟩
  | 38 => ⟨S256x256, .f32⟩
  | 39 => ⟨S_, .i32⟩
  | 40 => ⟨S256x256, .i32⟩
  | 41 => ⟨S256x256, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i1⟩
  | 53 => ⟨S_, .i32⟩
  | 54 => ⟨S256x256, .i32⟩
  | 55 => ⟨S256x256, .i1⟩
  | 56 => ⟨S_, .i32⟩
  | 57 => ⟨S_, .i1⟩
  | 58 => ⟨S256x256, .i1⟩
  | 59 => ⟨S256x256, .i1⟩
  | 60 => ⟨S256x256, .i1⟩
  | 61 => ⟨S256x256, .i32⟩
  | 62 => ⟨S256x256, .i32⟩
  | 63 => ⟨S256x256, .i32⟩
  | 64 => ⟨S_, .i32⟩
  | 65 => ⟨S256x256, .i32⟩
  | 66 => ⟨S256x256, .i1⟩
  | 67 => ⟨S_, .i32⟩
  | 68 => ⟨S256x256, .i32⟩
  | 69 => ⟨S256x256, .i32⟩
  | 70 => ⟨S_, .i32⟩
  | 71 => ⟨S256x256, .i32⟩
  | 72 => ⟨S256x256, .i1⟩
  | 73 => ⟨S256x256, .i1⟩
  | 74 => ⟨S256x256, .f32⟩
  | 75 => ⟨S256x256, .f32⟩
  | 76 => ⟨S_, .f32⟩
  | 77 => ⟨S256x256, .f32⟩
  | 78 => ⟨S256x256, .f32⟩
  | 79 => ⟨S256x256, .bf16⟩
  | 80 => ⟨S256, .i32⟩
  | 81 => ⟨S1x256x1, .i32⟩
  | 82 => ⟨S16, .i32⟩
  | 83 => ⟨S1x1x16, .i32⟩
  | 84 => ⟨S16, .i32⟩
  | 85 => ⟨S16x1x1, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S1x256x1, .i32⟩
  | 93 => ⟨S1x256x1, .i32⟩
  | 94 => ⟨S_, .i32⟩
  | 95 => ⟨S1x256x1, .i32⟩
  | 96 => ⟨S1x256x1, .i1⟩
  | 97 => ⟨S_, .i32⟩
  | 98 => ⟨S1x256x1, .i32⟩
  | 99 => ⟨S1x256x1, .i1⟩
  | 100 => ⟨S_, .i32⟩
  | 101 => ⟨S_, .i1⟩
  | 102 => ⟨S1x256x1, .i1⟩
  | 103 => ⟨S1x256x1, .i1⟩
  | 104 => ⟨S1x256x1, .i1⟩
  | 105 => ⟨S1x256x1, .i32⟩
  | 106 => ⟨S1x256x1, .i32⟩
  | 107 => ⟨S1x256x1, .i32⟩
  | 108 => ⟨S_, .i32⟩
  | 109 => ⟨S16x1x1, .i32⟩
  | 110 => ⟨S16x1x1, .i32⟩
  | 111 => ⟨S16x1x16, .i32⟩
  | 112 => ⟨S16x1x16, .i32⟩
  | 113 => ⟨S16x1x16, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x1x16, .i32⟩
  | 121 => ⟨S16x1x16, .i32⟩
  | 122 => ⟨S_, .i32⟩
  | 123 => ⟨S16x1x16, .i32⟩
  | 124 => ⟨S16x1x16, .i1⟩
  | 125 => ⟨S_, .i32⟩
  | 126 => ⟨S16x1x16, .i32⟩
  | 127 => ⟨S16x1x16, .i1⟩
  | _ => ⟨S64x256x4096, .f32⟩

abbrev hbmTy0_1 (i : Nat) : BufTy := match i % 128 with
  | 0 => ⟨S_, .i32⟩
  | 1 => ⟨S_, .i1⟩
  | 2 => ⟨S16x1x16, .i1⟩
  | 3 => ⟨S16x1x16, .i1⟩
  | 4 => ⟨S16x1x16, .i1⟩
  | 5 => ⟨S16x1x16, .i32⟩
  | 6 => ⟨S16x1x16, .i32⟩
  | 7 => ⟨S16x1x16, .i32⟩
  | 8 => ⟨S16x256x16, .i32⟩
  | 9 => ⟨S16x256x16, .i32⟩
  | 10 => ⟨S16x256x16, .i1⟩
  | 11 => ⟨S_, .i32⟩
  | 12 => ⟨S1x1x16, .i32⟩
  | 13 => ⟨S1x1x16, .i1⟩
  | 14 => ⟨S16x256x16, .i1⟩
  | 15 => ⟨S16x256x16, .i1⟩
  | 16 => ⟨S16x256x16, .bf16⟩
  | 17 => ⟨S256, .i32⟩
  | 18 => ⟨S1x1x256, .i32⟩
  | 19 => ⟨S16, .i32⟩
  | 20 => ⟨S1x16x1, .i32⟩
  | 21 => ⟨S16, .i32⟩
  | 22 => ⟨S16x1x1, .i32⟩
  | 23 => ⟨S_, .i32⟩
  | 24 => ⟨S16x1x1, .i32⟩
  | 25 => ⟨S16x1x1, .i32⟩
  | 26 => ⟨S16x1x256, .i32⟩
  | 27 => ⟨S16x1x256, .i32⟩
  | 28 => ⟨S16x1x256, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S16x1x256, .i32⟩
  | 36 => ⟨S16x1x256, .i32⟩
  | 37 => ⟨S_, .i32⟩
  | 38 => ⟨S16x1x256, .i32⟩
  | 39 => ⟨S16x1x256, .i1⟩
  | 40 => ⟨S_, .i32⟩
  | 41 => ⟨S16x1x256, .i32⟩
  | 42 => ⟨S16x1x256, .i1⟩
  | 43 => ⟨S_, .i32⟩
  | 44 => ⟨S_, .i1⟩
  | 45 => ⟨S16x1x256, .i1⟩
  | 46 => ⟨S16x1x256, .i1⟩
  | 47 => ⟨S16x1x256, .i1⟩
  | 48 => ⟨S16x1x256, .i32⟩
  | 49 => ⟨S16x1x256, .i32⟩
  | 50 => ⟨S16x1x256, .i32⟩
  | 51 => ⟨S16x16x256, .i32⟩
  | 52 => ⟨S16x16x256, .i32⟩
  | 53 => ⟨S16x16x256, .i1⟩
  | 54 => ⟨S16x16x256, .f32⟩
  | 55 => ⟨S_, .i32⟩
  | 56 => ⟨S1x1x256, .i32⟩
  | 57 => ⟨S1x1x256, .i32⟩
  | 58 => ⟨S_, .i32⟩
  | 59 => ⟨S16x1x1, .i32⟩
  | 60 => ⟨S16x1x1, .i32⟩
  | 61 => ⟨S16x1x256, .i32⟩
  | 62 => ⟨S16x1x256, .i32⟩
  | 63 => ⟨S16x1x256, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S16x1x256, .i32⟩
  | 71 => ⟨S16x1x256, .i32⟩
  | 72 => ⟨S_, .i32⟩
  | 73 => ⟨S16x1x256, .i32⟩
  | 74 => ⟨S16x1x256, .i1⟩
  | 75 => ⟨S_, .i32⟩
  | 76 => ⟨S16x1x256, .i32⟩
  | 77 => ⟨S16x1x256, .i1⟩
  | 78 => ⟨S_, .i32⟩
  | 79 => ⟨S_, .i1⟩
  | 80 => ⟨S16x1x256, .i1⟩
  | 81 => ⟨S16x1x256, .i1⟩
  | 82 => ⟨S16x1x256, .i1⟩
  | 83 => ⟨S16x1x256, .i32⟩
  | 84 => ⟨S16x1x256, .i32⟩
  | 85 => ⟨S16x1x256, .i32⟩
  | 86 => ⟨S16x16x256, .i32⟩
  | 87 => ⟨S16x16x256, .i32⟩
  | 88 => ⟨S16x16x256, .i1⟩
  | 89 => ⟨S16x16x256, .f32⟩
  | 90 => ⟨S16x16x256, .f32⟩
  | 91 => ⟨S_, .f32⟩
  | 92 => ⟨S16x16x256, .f32⟩
  | 93 => ⟨S16x16x256, .f32⟩
  | 94 => ⟨S4096, .i32⟩
  | 95 => ⟨S1x4096, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S1x4096, .i32⟩
  | 103 => ⟨S1x4096, .i32⟩
  | 104 => ⟨S_, .i32⟩
  | 105 => ⟨S1x4096, .i32⟩
  | 106 => ⟨S1x4096, .i1⟩
  | 107 => ⟨S_, .i32⟩
  | 108 => ⟨S1x4096, .i32⟩
  | 109 => ⟨S1x4096, .i1⟩
  | 110 => ⟨S_, .i32⟩
  | 111 => ⟨S_, .i1⟩
  | 112 => ⟨S1x4096, .i1⟩
  | 113 => ⟨S1x4096, .i1⟩
  | 114 => ⟨S1x4096, .i1⟩
  | 115 => ⟨S1x4096, .i32⟩
  | 116 => ⟨S1x4096, .i32⟩
  | 117 => ⟨S1x4096, .i32⟩
  | 118 => ⟨S_, .i32⟩
  | 119 => ⟨S1x4096, .i32⟩
  | 120 => ⟨S1x4096, .i1⟩
  | 121 => ⟨S1x4096, .f32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S64x256x4096, .f32⟩

abbrev hbmTy0_2 (i : Nat) : BufTy := match i % 128 with
  | 0 => ⟨S1x4096, .i32⟩
  | 1 => ⟨S1x4096, .i32⟩
  | 2 => ⟨S_, .i32⟩
  | 3 => ⟨S1x4096, .i32⟩
  | 4 => ⟨S1x4096, .i1⟩
  | 5 => ⟨S_, .i32⟩
  | 6 => ⟨S1x4096, .i32⟩
  | 7 => ⟨S1x4096, .i1⟩
  | 8 => ⟨S_, .i32⟩
  | 9 => ⟨S_, .i1⟩
  | 10 => ⟨S1x4096, .i1⟩
  | 11 => ⟨S1x4096, .i1⟩
  | 12 => ⟨S1x4096, .i1⟩
  | 13 => ⟨S1x4096, .i32⟩
  | 14 => ⟨S1x4096, .i32⟩
  | 15 => ⟨S1x4096, .i32⟩
  | 16 => ⟨S_, .i32⟩
  | 17 => ⟨S1x4096, .i32⟩
  | 18 => ⟨S1x4096, .i1⟩
  | 19 => ⟨S1x4096, .f32⟩
  | 20 => ⟨S1x4096, .f32⟩
  | 21 => ⟨S_, .f32⟩
  | 22 => ⟨S1x4096, .f32⟩
  | 23 => ⟨S1x4096, .f32⟩
  | 24 => ⟨S16384x4096, .f32⟩
  | 25 => ⟨S64x256x4096, .f32⟩
  | _ => ⟨S64x256x4096, .f32⟩

abbrev hbmTy (i : Nat) : BufTy := match i / 128 with
  | 0 => hbmTy0_0 i
  | 1 => hbmTy0_1 i
  | 2 => hbmTy0_2 i
  | _ => ⟨S64x256x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S256x256, .bf16⟩
  | .local _ .vmem, ⟨3, _⟩ => ⟨S16x256x16, .bf16⟩
  | .local _ .vmem, ⟨4, _⟩ => ⟨S16x16x256, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_v6 : Ref sig .tc := ⟨.hbm, 7, rfl⟩
abbrev main_call0_v7 : Ref sig .tc := ⟨.hbm, 8, rfl⟩
abbrev main_call0_c : Ref sig .tc := ⟨.hbm, 9, rfl⟩
abbrev main_call0_call0_v0 : Ref sig .tc := ⟨.hbm, 10, rfl⟩
abbrev main_call0_call0_c : Ref sig .tc := ⟨.hbm, 11, rfl⟩
abbrev main_call0_call0_v1 : Ref sig .tc := ⟨.hbm, 12, rfl⟩
abbrev main_call0_call0_c_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c_1 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_2 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c_3 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_v8 : Ref sig .tc := ⟨.hbm, 30, rfl⟩
abbrev main_call0_c_0 : Ref sig .tc := ⟨.hbm, 31, rfl⟩
abbrev main_call0_v9 : Ref sig .tc := ⟨.hbm, 32, rfl⟩
abbrev main_call0_v10 : Ref sig .tc := ⟨.hbm, 33, rfl⟩
abbrev main_call0_c_1 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_c_2 : Ref sig .tc := ⟨.hbm, 39, rfl⟩
abbrev main_call0_v15 : Ref sig .tc := ⟨.hbm, 40, rfl⟩
abbrev main_call0_v16 : Ref sig .tc := ⟨.hbm, 41, rfl⟩
abbrev main_call0_c_3 : Ref sig .tc := ⟨.hbm, 42, rfl⟩
abbrev main_call0_call1_v0 : Ref sig .tc := ⟨.hbm, 43, rfl⟩
abbrev main_call0_call1_c : Ref sig .tc := ⟨.hbm, 44, rfl⟩
abbrev main_call0_call1_v1 : Ref sig .tc := ⟨.hbm, 45, rfl⟩
abbrev main_call0_call1_c_0 : Ref sig .tc := ⟨.hbm, 46, rfl⟩
abbrev main_call0_call1_v2 : Ref sig .tc := ⟨.hbm, 47, rfl⟩
abbrev main_call0_call1_v3 : Ref sig .tc := ⟨.hbm, 48, rfl⟩
abbrev main_call0_call1_v4 : Ref sig .tc := ⟨.hbm, 49, rfl⟩
abbrev main_call0_call1_c_1 : Ref sig .tc := ⟨.hbm, 50, rfl⟩
abbrev main_call0_call1_v5 : Ref sig .tc := ⟨.hbm, 51, rfl⟩
abbrev main_call0_call1_v6 : Ref sig .tc := ⟨.hbm, 52, rfl⟩
abbrev main_call0_call1_c_2 : Ref sig .tc := ⟨.hbm, 53, rfl⟩
abbrev main_call0_call1_v7 : Ref sig .tc := ⟨.hbm, 54, rfl⟩
abbrev main_call0_call1_v8 : Ref sig .tc := ⟨.hbm, 55, rfl⟩
abbrev main_call0_call1_c_3 : Ref sig .tc := ⟨.hbm, 56, rfl⟩
abbrev main_call0_call1_v9 : Ref sig .tc := ⟨.hbm, 57, rfl⟩
abbrev main_call0_call1_v10 : Ref sig .tc := ⟨.hbm, 58, rfl⟩
abbrev main_call0_call1_v11 : Ref sig .tc := ⟨.hbm, 59, rfl⟩
abbrev main_call0_call1_v12 : Ref sig .tc := ⟨.hbm, 60, rfl⟩
abbrev main_call0_call1_v13 : Ref sig .tc := ⟨.hbm, 61, rfl⟩
abbrev main_call0_call1_v14 : Ref sig .tc := ⟨.hbm, 62, rfl⟩
abbrev main_call0_v17 : Ref sig .tc := ⟨.hbm, 63, rfl⟩
abbrev main_call0_c_4 : Ref sig .tc := ⟨.hbm, 64, rfl⟩
abbrev main_call0_v18 : Ref sig .tc := ⟨.hbm, 65, rfl⟩
abbrev main_call0_v19 : Ref sig .tc := ⟨.hbm, 66, rfl⟩
abbrev main_call0_c_5 : Ref sig .tc := ⟨.hbm, 67, rfl⟩
abbrev main_call0_v20 : Ref sig .tc := ⟨.hbm, 68, rfl⟩
abbrev main_call0_v21 : Ref sig .tc := ⟨.hbm, 69, rfl⟩
abbrev main_call0_c_6 : Ref sig .tc := ⟨.hbm, 70, rfl⟩
abbrev main_call0_v22 : Ref sig .tc := ⟨.hbm, 71, rfl⟩
abbrev main_call0_v23 : Ref sig .tc := ⟨.hbm, 72, rfl⟩
abbrev main_call0_v24 : Ref sig .tc := ⟨.hbm, 73, rfl⟩
abbrev main_call0_v25 : Ref sig .tc := ⟨.hbm, 74, rfl⟩
abbrev main_call0_v26 : Ref sig .tc := ⟨.hbm, 75, rfl⟩
abbrev main_call0_cst : Ref sig .tc := ⟨.hbm, 76, rfl⟩
abbrev main_call0_v27 : Ref sig .tc := ⟨.hbm, 77, rfl⟩
abbrev main_call0_v28 : Ref sig .tc := ⟨.hbm, 78, rfl⟩
abbrev main_call0_v29 : Ref sig .tc := ⟨.hbm, 79, rfl⟩
abbrev main_call0_v30 : Ref sig .tc := ⟨.hbm, 80, rfl⟩
abbrev main_call0_v31 : Ref sig .tc := ⟨.hbm, 81, rfl⟩
abbrev main_call0_v32 : Ref sig .tc := ⟨.hbm, 82, rfl⟩
abbrev main_call0_v33 : Ref sig .tc := ⟨.hbm, 83, rfl⟩
abbrev main_call0_v34 : Ref sig .tc := ⟨.hbm, 84, rfl⟩
abbrev main_call0_v35 : Ref sig .tc := ⟨.hbm, 85, rfl⟩
abbrev main_call0_c_7 : Ref sig .tc := ⟨.hbm, 86, rfl⟩
abbrev main_call0_call2_v0 : Ref sig .tc := ⟨.hbm, 87, rfl⟩
abbrev main_call0_call2_c : Ref sig .tc := ⟨.hbm, 88, rfl⟩
abbrev main_call0_call2_v1 : Ref sig .tc := ⟨.hbm, 89, rfl⟩
abbrev main_call0_call2_c_0 : Ref sig .tc := ⟨.hbm, 90, rfl⟩
abbrev main_call0_call2_v2 : Ref sig .tc := ⟨.hbm, 91, rfl⟩
abbrev main_call0_call2_v3 : Ref sig .tc := ⟨.hbm, 92, rfl⟩
abbrev main_call0_call2_v4 : Ref sig .tc := ⟨.hbm, 93, rfl⟩
abbrev main_call0_call2_c_1 : Ref sig .tc := ⟨.hbm, 94, rfl⟩
abbrev main_call0_call2_v5 : Ref sig .tc := ⟨.hbm, 95, rfl⟩
abbrev main_call0_call2_v6 : Ref sig .tc := ⟨.hbm, 96, rfl⟩
abbrev main_call0_call2_c_2 : Ref sig .tc := ⟨.hbm, 97, rfl⟩
abbrev main_call0_call2_v7 : Ref sig .tc := ⟨.hbm, 98, rfl⟩
abbrev main_call0_call2_v8 : Ref sig .tc := ⟨.hbm, 99, rfl⟩
abbrev main_call0_call2_c_3 : Ref sig .tc := ⟨.hbm, 100, rfl⟩
abbrev main_call0_call2_v9 : Ref sig .tc := ⟨.hbm, 101, rfl⟩
abbrev main_call0_call2_v10 : Ref sig .tc := ⟨.hbm, 102, rfl⟩
abbrev main_call0_call2_v11 : Ref sig .tc := ⟨.hbm, 103, rfl⟩
abbrev main_call0_call2_v12 : Ref sig .tc := ⟨.hbm, 104, rfl⟩
abbrev main_call0_call2_v13 : Ref sig .tc := ⟨.hbm, 105, rfl⟩
abbrev main_call0_call2_v14 : Ref sig .tc := ⟨.hbm, 106, rfl⟩
abbrev main_call0_v36 : Ref sig .tc := ⟨.hbm, 107, rfl⟩
abbrev main_call0_c_8 : Ref sig .tc := ⟨.hbm, 108, rfl⟩
abbrev main_call0_v37 : Ref sig .tc := ⟨.hbm, 109, rfl⟩
abbrev main_call0_v38 : Ref sig .tc := ⟨.hbm, 110, rfl⟩
abbrev main_call0_v39 : Ref sig .tc := ⟨.hbm, 111, rfl⟩
abbrev main_call0_v40 : Ref sig .tc := ⟨.hbm, 112, rfl⟩
abbrev main_call0_v41 : Ref sig .tc := ⟨.hbm, 113, rfl⟩
abbrev main_call0_c_9 : Ref sig .tc := ⟨.hbm, 114, rfl⟩
abbrev main_call0_call3_v0 : Ref sig .tc := ⟨.hbm, 115, rfl⟩
abbrev main_call0_call3_c : Ref sig .tc := ⟨.hbm, 116, rfl⟩
abbrev main_call0_call3_v1 : Ref sig .tc := ⟨.hbm, 117, rfl⟩
abbrev main_call0_call3_c_0 : Ref sig .tc := ⟨.hbm, 118, rfl⟩
abbrev main_call0_call3_v2 : Ref sig .tc := ⟨.hbm, 119, rfl⟩
abbrev main_call0_call3_v3 : Ref sig .tc := ⟨.hbm, 120, rfl⟩
abbrev main_call0_call3_v4 : Ref sig .tc := ⟨.hbm, 121, rfl⟩
abbrev main_call0_call3_c_1 : Ref sig .tc := ⟨.hbm, 122, rfl⟩
abbrev main_call0_call3_v5 : Ref sig .tc := ⟨.hbm, 123, rfl⟩
abbrev main_call0_call3_v6 : Ref sig .tc := ⟨.hbm, 124, rfl⟩
abbrev main_call0_call3_c_2 : Ref sig .tc := ⟨.hbm, 125, rfl⟩
abbrev main_call0_call3_v7 : Ref sig .tc := ⟨.hbm, 126, rfl⟩
abbrev main_call0_call3_v8 : Ref sig .tc := ⟨.hbm, 127, rfl⟩
abbrev main_call0_call3_c_3 : Ref sig .tc := ⟨.hbm, 128, rfl⟩
abbrev main_call0_call3_v9 : Ref sig .tc := ⟨.hbm, 129, rfl⟩
abbrev main_call0_call3_v10 : Ref sig .tc := ⟨.hbm, 130, rfl⟩
abbrev main_call0_call3_v11 : Ref sig .tc := ⟨.hbm, 131, rfl⟩
abbrev main_call0_call3_v12 : Ref sig .tc := ⟨.hbm, 132, rfl⟩
abbrev main_call0_call3_v13 : Ref sig .tc := ⟨.hbm, 133, rfl⟩
abbrev main_call0_call3_v14 : Ref sig .tc := ⟨.hbm, 134, rfl⟩
abbrev main_call0_v42 : Ref sig .tc := ⟨.hbm, 135, rfl⟩
abbrev main_call0_v43 : Ref sig .tc := ⟨.hbm, 136, rfl⟩
abbrev main_call0_v44 : Ref sig .tc := ⟨.hbm, 137, rfl⟩
abbrev main_call0_v45 : Ref sig .tc := ⟨.hbm, 138, rfl⟩
abbrev main_call0_c_10 : Ref sig .tc := ⟨.hbm, 139, rfl⟩
abbrev main_call0_v46 : Ref sig .tc := ⟨.hbm, 140, rfl⟩
abbrev main_call0_v47 : Ref sig .tc := ⟨.hbm, 141, rfl⟩
abbrev main_call0_v48 : Ref sig .tc := ⟨.hbm, 142, rfl⟩
abbrev main_call0_v49 : Ref sig .tc := ⟨.hbm, 143, rfl⟩
abbrev main_call0_v50 : Ref sig .tc := ⟨.hbm, 144, rfl⟩
abbrev main_call0_v51 : Ref sig .tc := ⟨.hbm, 145, rfl⟩
abbrev main_call0_v52 : Ref sig .tc := ⟨.hbm, 146, rfl⟩
abbrev main_call0_v53 : Ref sig .tc := ⟨.hbm, 147, rfl⟩
abbrev main_call0_v54 : Ref sig .tc := ⟨.hbm, 148, rfl⟩
abbrev main_call0_v55 : Ref sig .tc := ⟨.hbm, 149, rfl⟩
abbrev main_call0_v56 : Ref sig .tc := ⟨.hbm, 150, rfl⟩
abbrev main_call0_c_11 : Ref sig .tc := ⟨.hbm, 151, rfl⟩
abbrev main_call0_v57 : Ref sig .tc := ⟨.hbm, 152, rfl⟩
abbrev main_call0_v58 : Ref sig .tc := ⟨.hbm, 153, rfl⟩
abbrev main_call0_v59 : Ref sig .tc := ⟨.hbm, 154, rfl⟩
abbrev main_call0_v60 : Ref sig .tc := ⟨.hbm, 155, rfl⟩
abbrev main_call0_v61 : Ref sig .tc := ⟨.hbm, 156, rfl⟩
abbrev main_call0_c_12 : Ref sig .tc := ⟨.hbm, 157, rfl⟩
abbrev main_call0_call4_v0 : Ref sig .tc := ⟨.hbm, 158, rfl⟩
abbrev main_call0_call4_c : Ref sig .tc := ⟨.hbm, 159, rfl⟩
abbrev main_call0_call4_v1 : Ref sig .tc := ⟨.hbm, 160, rfl⟩
abbrev main_call0_call4_c_0 : Ref sig .tc := ⟨.hbm, 161, rfl⟩
abbrev main_call0_call4_v2 : Ref sig .tc := ⟨.hbm, 162, rfl⟩
abbrev main_call0_call4_v3 : Ref sig .tc := ⟨.hbm, 163, rfl⟩
abbrev main_call0_call4_v4 : Ref sig .tc := ⟨.hbm, 164, rfl⟩
abbrev main_call0_call4_c_1 : Ref sig .tc := ⟨.hbm, 165, rfl⟩
abbrev main_call0_call4_v5 : Ref sig .tc := ⟨.hbm, 166, rfl⟩
abbrev main_call0_call4_v6 : Ref sig .tc := ⟨.hbm, 167, rfl⟩
abbrev main_call0_call4_c_2 : Ref sig .tc := ⟨.hbm, 168, rfl⟩
abbrev main_call0_call4_v7 : Ref sig .tc := ⟨.hbm, 169, rfl⟩
abbrev main_call0_call4_v8 : Ref sig .tc := ⟨.hbm, 170, rfl⟩
abbrev main_call0_call4_c_3 : Ref sig .tc := ⟨.hbm, 171, rfl⟩
abbrev main_call0_call4_v9 : Ref sig .tc := ⟨.hbm, 172, rfl⟩
abbrev main_call0_call4_v10 : Ref sig .tc := ⟨.hbm, 173, rfl⟩
abbrev main_call0_call4_v11 : Ref sig .tc := ⟨.hbm, 174, rfl⟩
abbrev main_call0_call4_v12 : Ref sig .tc := ⟨.hbm, 175, rfl⟩
abbrev main_call0_call4_v13 : Ref sig .tc := ⟨.hbm, 176, rfl⟩
abbrev main_call0_call4_v14 : Ref sig .tc := ⟨.hbm, 177, rfl⟩
abbrev main_call0_v62 : Ref sig .tc := ⟨.hbm, 178, rfl⟩
abbrev main_call0_v63 : Ref sig .tc := ⟨.hbm, 179, rfl⟩
abbrev main_call0_v64 : Ref sig .tc := ⟨.hbm, 180, rfl⟩
abbrev main_call0_v65 : Ref sig .tc := ⟨.hbm, 181, rfl⟩
abbrev main_call0_v66 : Ref sig .tc := ⟨.hbm, 182, rfl⟩
abbrev main_call0_c_13 : Ref sig .tc := ⟨.hbm, 183, rfl⟩
abbrev main_call0_v67 : Ref sig .tc := ⟨.hbm, 184, rfl⟩
abbrev main_call0_v68 : Ref sig .tc := ⟨.hbm, 185, rfl⟩
abbrev main_call0_c_14 : Ref sig .tc := ⟨.hbm, 186, rfl⟩
abbrev main_call0_v69 : Ref sig .tc := ⟨.hbm, 187, rfl⟩
abbrev main_call0_v70 : Ref sig .tc := ⟨.hbm, 188, rfl⟩
abbrev main_call0_v71 : Ref sig .tc := ⟨.hbm, 189, rfl⟩
abbrev main_call0_v72 : Ref sig .tc := ⟨.hbm, 190, rfl⟩
abbrev main_call0_v73 : Ref sig .tc := ⟨.hbm, 191, rfl⟩
abbrev main_call0_c_15 : Ref sig .tc := ⟨.hbm, 192, rfl⟩
abbrev main_call0_call5_v0 : Ref sig .tc := ⟨.hbm, 193, rfl⟩
abbrev main_call0_call5_c : Ref sig .tc := ⟨.hbm, 194, rfl⟩
abbrev main_call0_call5_v1 : Ref sig .tc := ⟨.hbm, 195, rfl⟩
abbrev main_call0_call5_c_0 : Ref sig .tc := ⟨.hbm, 196, rfl⟩
abbrev main_call0_call5_v2 : Ref sig .tc := ⟨.hbm, 197, rfl⟩
abbrev main_call0_call5_v3 : Ref sig .tc := ⟨.hbm, 198, rfl⟩
abbrev main_call0_call5_v4 : Ref sig .tc := ⟨.hbm, 199, rfl⟩
abbrev main_call0_call5_c_1 : Ref sig .tc := ⟨.hbm, 200, rfl⟩
abbrev main_call0_call5_v5 : Ref sig .tc := ⟨.hbm, 201, rfl⟩
abbrev main_call0_call5_v6 : Ref sig .tc := ⟨.hbm, 202, rfl⟩
abbrev main_call0_call5_c_2 : Ref sig .tc := ⟨.hbm, 203, rfl⟩
abbrev main_call0_call5_v7 : Ref sig .tc := ⟨.hbm, 204, rfl⟩
abbrev main_call0_call5_v8 : Ref sig .tc := ⟨.hbm, 205, rfl⟩
abbrev main_call0_call5_c_3 : Ref sig .tc := ⟨.hbm, 206, rfl⟩
abbrev main_call0_call5_v9 : Ref sig .tc := ⟨.hbm, 207, rfl⟩
abbrev main_call0_call5_v10 : Ref sig .tc := ⟨.hbm, 208, rfl⟩
abbrev main_call0_call5_v11 : Ref sig .tc := ⟨.hbm, 209, rfl⟩
abbrev main_call0_call5_v12 : Ref sig .tc := ⟨.hbm, 210, rfl⟩
abbrev main_call0_call5_v13 : Ref sig .tc := ⟨.hbm, 211, rfl⟩
abbrev main_call0_call5_v14 : Ref sig .tc := ⟨.hbm, 212, rfl⟩
abbrev main_call0_v74 : Ref sig .tc := ⟨.hbm, 213, rfl⟩
abbrev main_call0_v75 : Ref sig .tc := ⟨.hbm, 214, rfl⟩
abbrev main_call0_v76 : Ref sig .tc := ⟨.hbm, 215, rfl⟩
abbrev main_call0_v77 : Ref sig .tc := ⟨.hbm, 216, rfl⟩
abbrev main_call0_v78 : Ref sig .tc := ⟨.hbm, 217, rfl⟩
abbrev main_call0_v79 : Ref sig .tc := ⟨.hbm, 218, rfl⟩
abbrev main_call0_cst_16 : Ref sig .tc := ⟨.hbm, 219, rfl⟩
abbrev main_call0_v80 : Ref sig .tc := ⟨.hbm, 220, rfl⟩
abbrev main_call0_v81 : Ref sig .tc := ⟨.hbm, 221, rfl⟩
abbrev main_call0_v82 : Ref sig .tc := ⟨.hbm, 222, rfl⟩
abbrev main_call0_v83 : Ref sig .tc := ⟨.hbm, 223, rfl⟩
abbrev main_call0_c_17 : Ref sig .tc := ⟨.hbm, 224, rfl⟩
abbrev main_call0_call6_v0 : Ref sig .tc := ⟨.hbm, 225, rfl⟩
abbrev main_call0_call6_c : Ref sig .tc := ⟨.hbm, 226, rfl⟩
abbrev main_call0_call6_v1 : Ref sig .tc := ⟨.hbm, 227, rfl⟩
abbrev main_call0_call6_c_0 : Ref sig .tc := ⟨.hbm, 228, rfl⟩
abbrev main_call0_call6_v2 : Ref sig .tc := ⟨.hbm, 229, rfl⟩
abbrev main_call0_call6_v3 : Ref sig .tc := ⟨.hbm, 230, rfl⟩
abbrev main_call0_call6_v4 : Ref sig .tc := ⟨.hbm, 231, rfl⟩
abbrev main_call0_call6_c_1 : Ref sig .tc := ⟨.hbm, 232, rfl⟩
abbrev main_call0_call6_v5 : Ref sig .tc := ⟨.hbm, 233, rfl⟩
abbrev main_call0_call6_v6 : Ref sig .tc := ⟨.hbm, 234, rfl⟩
abbrev main_call0_call6_c_2 : Ref sig .tc := ⟨.hbm, 235, rfl⟩
abbrev main_call0_call6_v7 : Ref sig .tc := ⟨.hbm, 236, rfl⟩
abbrev main_call0_call6_v8 : Ref sig .tc := ⟨.hbm, 237, rfl⟩
abbrev main_call0_call6_c_3 : Ref sig .tc := ⟨.hbm, 238, rfl⟩
abbrev main_call0_call6_v9 : Ref sig .tc := ⟨.hbm, 239, rfl⟩
abbrev main_call0_call6_v10 : Ref sig .tc := ⟨.hbm, 240, rfl⟩
abbrev main_call0_call6_v11 : Ref sig .tc := ⟨.hbm, 241, rfl⟩
abbrev main_call0_call6_v12 : Ref sig .tc := ⟨.hbm, 242, rfl⟩
abbrev main_call0_call6_v13 : Ref sig .tc := ⟨.hbm, 243, rfl⟩
abbrev main_call0_call6_v14 : Ref sig .tc := ⟨.hbm, 244, rfl⟩
abbrev main_call0_v84 : Ref sig .tc := ⟨.hbm, 245, rfl⟩
abbrev main_call0_c_18 : Ref sig .tc := ⟨.hbm, 246, rfl⟩
abbrev main_call0_v85 : Ref sig .tc := ⟨.hbm, 247, rfl⟩
abbrev main_call0_v86 : Ref sig .tc := ⟨.hbm, 248, rfl⟩
abbrev main_call0_v87 : Ref sig .tc := ⟨.hbm, 249, rfl⟩
abbrev main_call0_c_19 : Ref sig .tc := ⟨.hbm, 250, rfl⟩
abbrev main_call0_call7_v0 : Ref sig .tc := ⟨.hbm, 251, rfl⟩
abbrev main_call0_call7_c : Ref sig .tc := ⟨.hbm, 252, rfl⟩
abbrev main_call0_call7_v1 : Ref sig .tc := ⟨.hbm, 253, rfl⟩
abbrev main_call0_call7_c_0 : Ref sig .tc := ⟨.hbm, 254, rfl⟩
abbrev main_call0_call7_v2 : Ref sig .tc := ⟨.hbm, 255, rfl⟩
abbrev main_call0_call7_v3 : Ref sig .tc := ⟨.hbm, 256, rfl⟩
abbrev main_call0_call7_v4 : Ref sig .tc := ⟨.hbm, 257, rfl⟩
abbrev main_call0_call7_c_1 : Ref sig .tc := ⟨.hbm, 258, rfl⟩
abbrev main_call0_call7_v5 : Ref sig .tc := ⟨.hbm, 259, rfl⟩
abbrev main_call0_call7_v6 : Ref sig .tc := ⟨.hbm, 260, rfl⟩
abbrev main_call0_call7_c_2 : Ref sig .tc := ⟨.hbm, 261, rfl⟩
abbrev main_call0_call7_v7 : Ref sig .tc := ⟨.hbm, 262, rfl⟩
abbrev main_call0_call7_v8 : Ref sig .tc := ⟨.hbm, 263, rfl⟩
abbrev main_call0_call7_c_3 : Ref sig .tc := ⟨.hbm, 264, rfl⟩
abbrev main_call0_call7_v9 : Ref sig .tc := ⟨.hbm, 265, rfl⟩
abbrev main_call0_call7_v10 : Ref sig .tc := ⟨.hbm, 266, rfl⟩
abbrev main_call0_call7_v11 : Ref sig .tc := ⟨.hbm, 267, rfl⟩
abbrev main_call0_call7_v12 : Ref sig .tc := ⟨.hbm, 268, rfl⟩
abbrev main_call0_call7_v13 : Ref sig .tc := ⟨.hbm, 269, rfl⟩
abbrev main_call0_call7_v14 : Ref sig .tc := ⟨.hbm, 270, rfl⟩
abbrev main_call0_v88 : Ref sig .tc := ⟨.hbm, 271, rfl⟩
abbrev main_call0_c_20 : Ref sig .tc := ⟨.hbm, 272, rfl⟩
abbrev main_call0_v89 : Ref sig .tc := ⟨.hbm, 273, rfl⟩
abbrev main_call0_v90 : Ref sig .tc := ⟨.hbm, 274, rfl⟩
abbrev main_call0_v91 : Ref sig .tc := ⟨.hbm, 275, rfl⟩
abbrev main_call0_v92 : Ref sig .tc := ⟨.hbm, 276, rfl⟩
abbrev main_call0_cst_21 : Ref sig .tc := ⟨.hbm, 277, rfl⟩
abbrev main_call0_v93 : Ref sig .tc := ⟨.hbm, 278, rfl⟩
abbrev main_call0_v94 : Ref sig .tc := ⟨.hbm, 279, rfl⟩
abbrev main_call0_v95 : Ref sig .tc := ⟨.hbm, 280, rfl⟩
abbrev main_v0 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x256x4096 : Shape := ⟨3, ![64, 256, 4096]⟩
abbrev S_ : Shape := ⟨0, ![]⟩
abbrev S64x256x4104 : Shape := ⟨3, ![64, 256, 4104]⟩
abbrev S64x256x1 : Shape := ⟨3, ![64, 256, 1]⟩
abbrev S64x256 : Shape := ⟨2, ![64, 256]⟩
abbrev S1 : Shape := ⟨1, ![1]⟩
abbrev S64x256x4095 : Shape := ⟨3, ![64, 256, 4095]⟩
abbrev S64x256x456x9 : Shape := ⟨4, ![64, 256, 456, 9]⟩

abbrev nBuf : Space → Nat
  | .hbm => 29
  | .vmem => 0
  | .smem => 0
  | _ => 0

abbrev bufTy : (tb : Table) → Fin (tcTables nBuf tb) → BufTy
  | .hbm, ⟨0, _⟩ => ⟨S64x256x4096, .f32⟩
  | .hbm, ⟨1, _⟩ => ⟨S_, .f32⟩
  | .hbm, ⟨2, _⟩ => ⟨S64x256x4104, .f32⟩
  | .hbm, ⟨3, _⟩ => ⟨S64x256x1, .f32⟩
  | .hbm, ⟨4, _⟩ => ⟨S64x256, .f32⟩
  | .hbm, ⟨5, _⟩ => ⟨S_, .f32⟩
  | .hbm, ⟨6, _⟩ => ⟨S64x256, .f32⟩
  | .hbm, ⟨7, _⟩ => ⟨S64x256, .f32⟩
  | .hbm, ⟨8, _⟩ => ⟨S_, .i32⟩
  | .hbm, ⟨9, _⟩ => ⟨S1, .i32⟩
  | .hbm, ⟨10, _⟩ => ⟨S64x256x4104, .f32⟩
  | .hbm, ⟨11, _⟩ => ⟨S64x256x4095, .f32⟩
  | .hbm, ⟨12, _⟩ => ⟨S64x256x4095, .f32⟩
  | .hbm, ⟨13, _⟩ => ⟨S64x256x4095, .f32⟩
  | .hbm, ⟨14, _⟩ => ⟨S_, .f32⟩
  | .hbm, ⟨15, _⟩ => ⟨S64x256x4095, .f32⟩
  | .hbm, ⟨16, _⟩ => ⟨S64x256x4095, .f32⟩
  | .hbm, ⟨17, _⟩ => ⟨S_, .i32⟩
  | .hbm, ⟨18, _⟩ => ⟨S1, .i32⟩
  | .hbm, ⟨19, _⟩ => ⟨S64x256x4104, .f32⟩
  | .hbm, ⟨20, _⟩ => ⟨S_, .i32⟩
  | .hbm, ⟨21, _⟩ => ⟨S_, .f32⟩
  | .hbm, ⟨22, _⟩ => ⟨S64x256x4104, .f32⟩
  | .hbm, ⟨23, _⟩ => ⟨S64x256x456x9, .f32⟩
  | .hbm, ⟨24, _⟩ => ⟨S_, .f32⟩
  | .hbm, ⟨25, _⟩ => ⟨S_, .f32⟩
  | .hbm, ⟨26, _⟩ => ⟨S64x256x456x9, .f32⟩
  | .hbm, ⟨27, _⟩ => ⟨S64x256x4104, .f32⟩
  | .hbm, ⟨28, _⟩ => ⟨S64x256x4096, .f32⟩
  | _, _ => ⟨S64x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_call1_call0_cst : Ref sig .tc := ⟨.hbm, 24, rfl⟩
abbrev main_call1_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.CombSum.lean ====
/-
  The two sums that the kernel and the reference form for one row, as sums of real numbers, and their equality.

  A row is `X 0, X 1, …`. The reference writes a stream `stream X` of 4104 numbers (`8 · X 0` at position 0, the scaled
  differences `8 · (X s − X (s − 1))` at position `4 + s`, zero elsewhere), reads it as 456 lines of nine, and sums
  each of the nine columns from the top; entry `t` of its result is the sum at position `t + 4` (`chainSum`).
  The kernel cuts the row into blocks of 256, and for block `i` adds three sums (`blockSum`): the block's own entries
  against a 256 × 256 weight, `X 0` times an edge weight, and the entries of the earlier blocks, collected by their
  residue modulo nine, against a weight that picks two residues.
-/
module

public import Mathlib.Algebra.BigOperators.Intervals
public import Mathlib.Algebra.BigOperators.Ring.Finset
public import Mathlib.Data.Real.Basic
public import Mathlib.Tactic.Ring

@[expose] public section

noncomputable section

namespace Cert.Comb

open Finset

/-- One where `s ≤ t` and the two are a multiple of nine apart, zero elsewhere. -/
def hit (s t : ℕ) : ℝ := if s ≤ t ∧ s % 9 = t % 9 then 1 else 0

/-- One where `a` leaves the remainder `r` modulo nine, zero elsewhere. -/
def sel (a r : ℕ) : ℝ := if a % 9 = r then 1 else 0

/-- The weight of a block's entry `u` in the same block's result `v`. -/
def diagW (u v : ℕ) : ℝ := 8 * (hit u v - hit (u + 1) v)

/-- The weight of residue `r`'s running sum in result `v` of block `i`. -/
def expandW (i r v : ℕ) : ℝ := 8 * (sel (256 * i + v) r - sel (256 * i + v + 8) r)

/-- The weight of the row's first entry in result `t`. -/
def edgeW (t : ℕ) : ℝ := 8 * (sel t 5 - sel t 0)

/-- Residue `r`'s running sum over the first `i` blocks. -/
def carrySum (X : ℕ → ℝ) (i r : ℕ) : ℝ := ∑ j ∈ range i, ∑ u ∈ range 256, X (256 * j + u) * sel (256 * j + u) r

/-- What the kernel makes of block `i` at its entry `v`. -/
def blockSum (X : ℕ → ℝ) (i v : ℕ) : ℝ :=
  ∑ u ∈ range 256, X (256 * i + u) * diagW u v + X 0 * edgeW (256 * i + v) + ∑ r ∈ range 16, carrySum X i r * expandW i r v

/-- The reference's stream: the scaled first entry, four zeros, the scaled differences, zeros. -/
def stream (X : ℕ → ℝ) (n : ℕ) : ℝ :=
  if n = 0 then 8 * X 0 else if 5 ≤ n ∧ n < 4100 then 8 * (X (n - 4) - X (n - 5)) else 0

/-- The reference's entry `t`: the sum of the stream down one column of nine, to position `t + 4`. -/
def chainSum (X : ℕ → ℝ) (t : ℕ) : ℝ := ∑ q ∈ range ((t + 4) / 9 + 1), stream X (9 * q + (t + 4) % 9)

/-- The form in which the two meet: every entry up to `t` with `t`'s residue, less every entry whose successor has it. -/
def common (X : ℕ → ℝ) (t : ℕ) : ℝ :=
  8 * (∑ s ∈ range (t + 1), (if s % 9 = t % 9 then X s else 0) - ∑ s ∈ range t, (if (s + 1) % 9 = t % 9 then X s else 0))
    + X 0 * edgeW t

/-- A sum block by block is the sum over the whole stretch. -/
theorem sum_blocks (f : ℕ → ℝ) (i : ℕ) : ∑ j ∈ range i, ∑ u ∈ range 256, f (256 * j + u) = ∑ s ∈ range (256 * i), f s := by
  induction i with
  | zero => simp
  | succ i ih => rw [sum_range_succ, ih, Nat.mul_succ, sum_range_add]

/-- Against the expanding weight only the two residues it names survive. -/
theorem sum_expand (C : ℕ → ℝ) (i v : ℕ) :
    ∑ r ∈ range 16, C r * expandW i r v = 8 * (C ((256 * i + v) % 9) - C ((256 * i + v + 8) % 9)) := by
  have pick : ∀ a : ℕ, ∑ r ∈ range 16, C r * sel a r = C (a % 9) := fun a => by
    unfold sel
    simp only [mul_ite, mul_one, mul_zero]
    rw [sum_ite_eq, if_pos (mem_range.2 (by omega))]
  unfold expandW
  rw [← pick (256 * i + v), ← pick (256 * i + v + 8), ← sum_sub_distrib, mul_sum]
  exact sum_congr rfl fun r _ => by ring

/-- A sum against a weight that vanishes past `n` stops at `n`. -/
theorem sum_cut (f : ℕ → ℝ) {n N : ℕ} (h : n ≤ N) (h0 : ∀ s, n ≤ s → f s = 0) : ∑ s ∈ range N, f s = ∑ s ∈ range n, f s := by
  obtain ⟨d, rfl⟩ := Nat.exists_eq_add_of_le h
  rw [sum_range_add, sum_eq_zero fun u _ => h0 (n + u) (Nat.le_add_right ..), add_zero]

/-- The kernel's three sums are the common form. -/
theorem blockSum_eq (X : ℕ → ℝ) (i v : ℕ) (hv : v < 256) : blockSum X i v = common X (256 * i + v) := by
  set t := 256 * i + v with ht
  have hdiag : ∑ u ∈ range 256, X (256 * i + u) * diagW u v
      = ∑ u ∈ range 256, X (256 * i + u) * (8 * (hit (256 * i + u) t - hit (256 * i + u + 1) t)) := by
    refine sum_congr rfl fun u _ => ?_
    have e : ∀ w, hit w v = hit (256 * i + w) t := fun w => by
      unfold hit
      exact if_congr (by omega) rfl rfl
    unfold diagW
    rw [e u, e (u + 1), ← Nat.add_assoc]
  have hcarry : 8 * (carrySum X i (t % 9) - carrySum X i ((t + 8) % 9))
      = ∑ s ∈ range (256 * i), X s * (8 * (hit s t - hit (s + 1) t)) := by
    unfold carrySum
    rw [sum_blocks (fun s => X s * sel s (t % 9)), sum_blocks (fun s => X s * sel s ((t + 8) % 9)), ← sum_sub_distrib, mul_sum]
    refine sum_congr rfl fun s hs => ?_
    have hs' := mem_range.1 hs
    have e1 : sel s (t % 9) = hit s t := by
      unfold sel hit
      exact if_congr (by omega) rfl rfl
    have e2 : sel s ((t + 8) % 9) = hit (s + 1) t := by
      unfold sel hit
      exact if_congr (by omega) rfl rfl
    rw [e1, e2]; ring
  have hall : blockSum X i v = ∑ s ∈ range (256 * i + 256), X s * (8 * (hit s t - hit (s + 1) t)) + X 0 * edgeW t := by
    unfold blockSum
    rw [hdiag, sum_expand, ← ht, hcarry, sum_range_add]
    ring
  have hsplit : ∑ s ∈ range (256 * i + 256), X s * (8 * (hit s t - hit (s + 1) t))
      = 8 * (∑ s ∈ range (256 * i + 256), X s * hit s t - ∑ s ∈ range (256 * i + 256), X s * hit (s + 1) t) := by
    rw [← sum_sub_distrib, mul_sum]
    exact sum_congr rfl fun s _ => by ring
  have hfirst : ∑ s ∈ range (256 * i + 256), X s * hit s t = ∑ s ∈ range (t + 1), if s % 9 = t % 9 then X s else 0 := by
    rw [sum_cut _ (n := t + 1) (by omega) fun s hs => by
      unfold hit
      rw [if_neg (by omega), mul_zero]]
    refine sum_congr rfl fun s hs => ?_
    have hs' := mem_range.1 hs
    unfold hit
    by_cases h : s % 9 = t % 9
    · rw [if_pos ⟨by omega, h⟩, if_pos h, mul_one]
    · rw [if_neg fun q => h q.2, if_neg h, mul_zero]
  have hsecond : ∑ s ∈ range (256 * i + 256), X s * hit (s + 1) t = ∑ s ∈ range t, if (s + 1) % 9 = t % 9 then X s else 0 := by
    rw [sum_cut _ (n := t) (by omega) fun s hs => by
      unfold hit
      rw [if_neg (by omega), mul_zero]]
    refine sum_congr rfl fun s hs => ?_
    have hs' := mem_range.1 hs
    unfold hit
    by_cases h : (s + 1) % 9 = t % 9
    · rw [if_pos ⟨by omega, h⟩, if_pos h, mul_one]
    · rw [if_neg fun q => h q.2, if_neg h, mul_zero]
  rw [hall, hsplit, hfirst, hsecond]
  rfl

/-- A sum down one column of nine, to position `n`, is the sum of the entries up to `n` with `n`'s residue. -/
theorem sum_column (f : ℕ → ℝ) (n : ℕ) :
    ∑ q ∈ range (n / 9 + 1), f (9 * q + n % 9) = ∑ k ∈ range (n + 1), if k % 9 = n % 9 then f k else 0 := by
  rw [← sum_filter]
  refine sum_nbij' (fun q => 9 * q + n % 9) (fun k => k / 9) ?_ ?_ ?_ ?_ ?_
  · intro q hq
    have := mem_range.1 hq
    exact mem_filter.2 ⟨mem_range.2 (by omega), by omega⟩
  · intro k hk
    have h := mem_filter.1 hk
    have := mem_range.1 h.1
    exact mem_range.2 (by omega)
  · intro q hq
    omega
  · intro k hk
    have h := (mem_filter.1 hk).2
    omega
  · intro q _
    rfl

/-- The reference's sum is the common form, at every position of the row. -/
theorem chainSum_eq (X : ℕ → ℝ) (t : ℕ) (ht : t < 4096) : chainSum X t = common X t := by
  unfold chainSum
  rw [sum_column, show t + 4 + 1 = 5 + t by omega, sum_range_add]
  have hhead : ∑ k ∈ range 5, (if k % 9 = (t + 4) % 9 then stream X k else 0) = 8 * X 0 * sel t 5 := by
    have z : ∀ k, k ≠ 0 → k < 5 → stream X k = 0 := fun k h0 h5 => by
      unfold stream
      rw [if_neg h0, if_neg (by omega)]
    simp only [sum_range_succ, sum_range_zero]
    rw [z 1 (by omega) (by omega), z 2 (by omega) (by omega), z 3 (by omega) (by omega), z 4 (by omega) (by omega)]
    simp only [ite_self, add_zero, zero_add]
    unfold sel
    by_cases h : t % 9 = 5
    · rw [if_pos (by omega), if_pos h, mul_one]
      rfl
    · rw [if_neg (by omega), if_neg h, mul_zero]
  have htail : ∑ s ∈ range t, (if (5 + s) % 9 = (t + 4) % 9 then stream X (5 + s) else 0)
      = 8 * (∑ s ∈ range t, (if (s + 1) % 9 = t % 9 then X (s + 1) else 0) - ∑ s ∈ range t, (if (s + 1) % 9 = t % 9 then X s else 0)) := by
    rw [← sum_sub_distrib, mul_sum]
    refine sum_congr rfl fun s hs => ?_
    have hs' := mem_range.1 hs
    have hst : stream X (5 + s) = 8 * (X (s + 1) - X s) := by
      unfold stream
      rw [if_neg (by omega), if_pos ⟨by omega, by omega⟩, show 5 + s - 4 = s + 1 by omega, show 5 + s - 5 = s by omega]
    rw [hst]
    by_cases h : (s + 1) % 9 = t % 9
    · rw [if_pos (by omega), if_pos h, if_pos h]
    · rw [if_neg (by omega), if_neg h, if_neg h, sub_zero, mul_zero]
  have hzero : (if 0 % 9 = t % 9 then X 0 else 0) = X 0 * sel t 0 := by
    unfold sel
    by_cases h : t % 9 = 0
    · rw [if_pos (by omega), if_pos h, mul_one]
    · rw [if_neg (by omega), if_neg h, mul_zero]
  rw [hhead, htail]
  unfold common edgeW
  rw [sum_range_succ', hzero]
  ring

/-- **The kernel's sums and the reference's are equal** at entry `v` of block `i`. -/
theorem blockSum_eq_chainSum (X : ℕ → ℝ) (i v : ℕ) (hi : i < 16) (hv : v < 256) :
    blockSum X i v = chainSum X (256 * i + v) := by
  rw [blockSum_eq X i v hv, chainSum_eq X _ (by omega)]

end Cert.Comb

end
-- ==== Proof.Body.lean ====
/-
  What one block of the launch computes: from 512 rows and the four weights, each row's 4096 results.

  The body works through the row in sixteen pieces of 256 columns. `carry` names the running sums it keeps by residue,
  `piece` the 256 columns it stores; the stores' contents are these by definition. When the block's entries and the
  weights are real numbers, each piece is `Comb.blockSum` of the row.
-/
module

public import proofs.«01_k».proof.Proof.Gen.KernelIdeal.Frame
public import proofs.«01_k».proof.Proof.CombSum
public import Idealize.ShloMosaic.Lib.Pointwise

@[expose] public section

set_option maxRecDepth 16384
set_option maxHeartbeats 1000000

noncomputable section

namespace Cert.KernelIdeal.Body

open Cert.KernelIdeal Cert.KernelIdeal.Gen Idealize.ShloMosaic Idealize.ShloMosaic.TcCoe Cert.Comb Finset

/-! ## The pieces, by their number -/

theorem inb_x (k : ℕ) (hk : k < 16) : ∀ a, (![0, 256 * k] : Fin 2 → ℕ) a + S512x256.size a ≤ S512x4096.size a := by
  intro a
  fin_cases a
  · show 0 + 512 ≤ 512; omega
  · show 256 * k + 256 ≤ 4096; omega

theorem inb_c (k : ℕ) (hk : k < 16) : ∀ a, (![0, 256 * k] : Fin 2 → ℕ) a + S1x256.size a ≤ S1x4096.size a := by
  intro a
  fin_cases a
  · show 0 + 1 ≤ 1; omega
  · show 256 * k + 256 ≤ 4096; omega

theorem inb_p (k : ℕ) (hk : k < 16) : ∀ a, (![k, 0, 0] : Fin 3 → ℕ) a + S1x256x16.size a ≤ S16x256x16.size a := by
  intro a
  fin_cases a
  · show k + 1 ≤ 16; omega
  · show 0 + 256 ≤ 256; omega
  · show 0 + 16 ≤ 16; omega

theorem inb_f (k : ℕ) (hk : k < 16) : ∀ a, (![k, 0, 0] : Fin 3 → ℕ) a + S1x16x256.size a ≤ S16x16x256.size a := by
  intro a
  fin_cases a
  · show k + 1 ≤ 16; omega
  · show 0 + 16 ≤ 16; omega
  · show 0 + 256 ≤ 256; omega

/-- Columns `256 k … 256 k + 255` of a block. -/
abbrev colsX (k : ℕ) (hk : k < 16) : Rect S512x4096 := Rect.unit (s := S512x4096) ![0, 256 * k] S512x256.size (inb_x k hk)

/-- The block's piece `k`, as the products read it. -/
def xPiece (x0 : Vec Ideal S512x4096 .f32) (k : ℕ) (hk : k < 16) : FVec Ideal S512x256 .bf16 :=
  truncf .bf16 (shapeCast S512x256 (View.ld x0 (colsX k hk)) shapeCasts_S512x256_S512x256) bitsLt_bf16_f32

/-- Piece `k`'s selection of residues. -/
def pPiece (x2 : Vec Ideal S16x256x16 .bf16) (k : ℕ) (hk : k < 16) : FVec Ideal S256x16 .bf16 :=
  shapeCast S256x16 (View.ld x2 (Rect.unit (s := S16x256x16) ![k, 0, 0] S1x256x16.size (inb_p k hk))) shapeCasts_S1x256x16_S256x16

/-- Piece `k`'s expanding weight. -/
def fPiece (x3 : Vec Ideal S16x16x256 .f32) (k : ℕ) (hk : k < 16) : FVec Ideal S16x256 .f32 :=
  shapeCast S16x256 (View.ld x3 (Rect.unit (s := S16x16x256) ![k, 0, 0] S1x16x256.size (inb_f k hk))) shapeCasts_S1x16x256_S16x256

/-- Piece `k`'s edge weight. -/
def cPiece (x4 : Vec Ideal S1x4096 .f32) (k : ℕ) (hk : k < 16) : FVec Ideal S1x256 .f32 :=
  shapeCast S1x256 (View.ld x4 (Rect.unit (s := S1x4096) ![0, 256 * k] S1x256.size (inb_c k hk))) shapeCasts_S1x256_S1x256

/-- Piece `k`'s addition to the running sums. -/
def gather (x0 : Vec Ideal S512x4096 .f32) (x2 : Vec Ideal S16x256x16 .bf16) (k : ℕ) (hk : k < 16) : FVec Ideal S512x16 .f32 :=
  matmul dot_S512x256_S256x16_S512x16_1_0_0_1_n_n none (xPiece x0 k hk) (pPiece x2 k hk) (constant S512x16 .f32 0x00000000#32)

/-- The running sums by residue after piece `k`. -/
def carry (x0 : Vec Ideal S512x4096 .f32) (x2 : Vec Ideal S16x256x16 .bf16) : (k : ℕ) → k < 16 → FVec Ideal S512x16 .f32
  | 0, hk => gather x0 x2 0 hk
  | k + 1, hk => addf (carry x0 x2 k (by omega)) (gather x0 x2 (k + 1) hk)

/-- Piece `k`'s product with the 256 × 256 weight, and the first column times the edge weight. -/
def local_ (x0 : Vec Ideal S512x4096 .f32) (x1 : Vec Ideal S256x256 .bf16) (x4 : Vec Ideal S1x4096 .f32) (k : ℕ) (hk : k < 16) :
    FVec Ideal S512x256 .f32 :=
  addf (matmul dot_S512x256_S256x256_S512x256_1_0_0_1_n_n none (xPiece x0 k hk) (shapeCast S256x256 (View.ld x1 r0_2) shapeCasts_S256x256_S256x256 : FVec Ideal S256x256 .bf16) (constant S512x256 .f32 0x00000000#32))
    (mulf (broadcastTo S512x256 (shapeCast S512x1 (View.ld x0 r0_0) shapeCasts_S512x1_S512x1) broadcasts_S512x1_S512x256) (broadcastTo S512x256 (cPiece x4 k hk) broadcasts_S1x256_S512x256))

/-- What the body stores into columns `256 k … 256 k + 255`. -/
def piece (x0 : Vec Ideal S512x4096 .f32) (x1 : Vec Ideal S256x256 .bf16) (x2 : Vec Ideal S16x256x16 .bf16) (x3 : Vec Ideal S16x16x256 .f32)
    (x4 : Vec Ideal S1x4096 .f32) : (k : ℕ) → k < 16 → FVec Ideal S512x256 .f32
  | 0, hk => local_ x0 x1 x4 0 hk
  | k + 1, hk => addf (local_ x0 x1 x4 (k + 1) hk)
      (matmul dot_S512x16_S16x256_S512x256_1_0_0_1_n_n none (carry x0 x2 k (by omega)) (fPiece x3 (k + 1) hk) (constant S512x256 .f32 0x00000000#32))

/-! ## Their entries -/

theorem xPiece_apply (x0 : Vec Ideal S512x4096 .f32) (k : ℕ) (hk : k < 16) (p : Fin 512) (u : Fin 256) :
    xPiece x0 k hk (ix2 p u) = x0 (ix2 p ⟨256 * k + u.val, by omega⟩) := by
  unfold xPiece
  pointwise

theorem dropUnit_p (v : Vec Ideal S1x256x16 .bf16) (u : Fin 256) (r : Fin 16) :
    shapeCast S256x16 v shapeCasts_S1x256x16_S256x16 (ix2 u r) = v (ix3 (0 : Fin 1) u r) := by pointwise

theorem dropUnit_f (w : Vec Ideal S1x16x256 .f32) (r : Fin 16) (v : Fin 256) :
    shapeCast S16x256 w shapeCasts_S1x16x256_S16x256 (ix2 r v) = w (ix3 (0 : Fin 1) r v) := by pointwise

theorem pPiece_apply (x2 : Vec Ideal S16x256x16 .bf16) (k : ℕ) (hk : k < 16) (u : Fin 256) (r : Fin 16) :
    pPiece x2 k hk (ix2 u r) = x2 (ix3 ⟨k, hk⟩ u r) := by
  refine (dropUnit_p _ u r).trans ?_
  show x2 _ = x2 _
  congr 1
  funext a
  refine Fin.ext ?_
  fin_cases a
  · show k + 1 * 0 = k; omega
  · show 0 + 1 * u.val = u.val; omega
  · show 0 + 1 * r.val = r.val; omega

theorem fPiece_apply (x3 : Vec Ideal S16x16x256 .f32) (k : ℕ) (hk : k < 16) (r : Fin 16) (v : Fin 256) :
    fPiece x3 k hk (ix2 r v) = x3 (ix3 ⟨k, hk⟩ r v) := by
  refine (dropUnit_f _ r v).trans ?_
  show x3 _ = x3 _
  congr 1
  funext a
  refine Fin.ext ?_
  fin_cases a
  · show k + 1 * 0 = k; omega
  · show 0 + 1 * r.val = r.val; omega
  · show 0 + 1 * v.val = v.val; omega

theorem cPiece_apply (x4 : Vec Ideal S1x4096 .f32) (k : ℕ) (hk : k < 16) (v : Fin 256) :
    cPiece x4 k hk (ix2 (0 : Fin 1) v) = x4 (ix2 (0 : Fin 1) ⟨256 * k + v.val, by omega⟩) := by
  unfold cPiece
  pointwise

theorem gatherProduct_apply (a : FVec Ideal S512x256 .bf16) (b : FVec Ideal S256x16 .bf16) (p : Fin 512) (r : Fin 16) :
    matmul dot_S512x256_S256x16_S512x16_1_0_0_1_n_n none a b (constant S512x16 .f32 0x00000000#32) (ix2 p r)
      = ∑ u : Fin 256, a (ix2 p u) * b (ix2 u r) := by
  pointwise

theorem diagProduct_apply (a : FVec Ideal S512x256 .bf16) (b : FVec Ideal S256x256 .bf16) (p : Fin 512) (v : Fin 256) :
    matmul dot_S512x256_S256x256_S512x256_1_0_0_1_n_n none a b (constant S512x256 .f32 0x00000000#32) (ix2 p v)
      = ∑ u : Fin 256, a (ix2 p u) * b (ix2 u v) := by
  pointwise

theorem expandProduct_apply (a : FVec Ideal S512x16 .f32) (b : FVec Ideal S16x256 .f32) (p : Fin 512) (v : Fin 256) :
    matmul dot_S512x16_S16x256_S512x256_1_0_0_1_n_n none a b (constant S512x256 .f32 0x00000000#32) (ix2 p v)
      = ∑ r : Fin 16, a (ix2 p r) * b (ix2 r v) := by
  pointwise

theorem edgeProduct_apply (a : FVec Ideal S512x1 .f32) (b : FVec Ideal S1x256 .f32) (p : Fin 512) (v : Fin 256) :
    mulf (broadcastTo S512x256 a broadcasts_S512x1_S512x256) (broadcastTo S512x256 b broadcasts_S1x256_S512x256) (ix2 p v)
      = a (ix2 p (0 : Fin 1)) * b (ix2 (0 : Fin 1) v) := by
  pointwise

theorem firstCol_apply (x0 : Vec Ideal S512x4096 .f32) (p : Fin 512) :
    shapeCast S512x1 (View.ld x0 r0_0) shapeCasts_S512x1_S512x1 (ix2 p (0 : Fin 1)) = x0 (ix2 p (0 : Fin 4096)) := by
  pointwise

theorem wholeDiag_apply (x1 : Vec Ideal S256x256 .bf16) (u v : Fin 256) :
    shapeCast S256x256 (View.ld x1 r0_2) shapeCasts_S256x256_S256x256 (ix2 u v) = x1 (ix2 u v) := by
  pointwise

/-! ## Over the real numbers -/

/-- A sum of products of real numbers is a real number. -/
theorem sum_coe (n : ℕ) (f g : ℕ → ℝ) :
    ∑ k : Fin n, ((f k.val : ℝ) : EReal) * ((g k.val : ℝ) : EReal) = ((∑ k ∈ range n, f k * g k : ℝ) : EReal) := by
  induction n with
  | zero => simp
  | succ n ih =>
    rw [Fin.sum_univ_castSucc, sum_range_succ, EReal.coe_add, EReal.coe_mul, ← ih]
    rfl

variable {x0 : Vec Ideal S512x4096 .f32} {x1 : Vec Ideal S256x256 .bf16} {x2 : Vec Ideal S16x256x16 .bf16}
  {x3 : Vec Ideal S16x16x256 .f32} {x4 : Vec Ideal S1x4096 .f32} {X : Fin 512 → ℕ → ℝ}

theorem gather_coe (hx : ∀ (p : Fin 512) (t : Fin 4096), x0 (ix2 p t) = ((X p t.val : ℝ) : EReal))
    (hp : ∀ (j : Fin 16) (u : Fin 256) (r : Fin 16), x2 (ix3 j u r) = ((sel (256 * j.val + u.val) r.val : ℝ) : EReal))
    (k : ℕ) (hk : k < 16) (p : Fin 512) (r : Fin 16) :
    gather x0 x2 k hk (ix2 p r) = ((∑ u ∈ range 256, X p (256 * k + u) * sel (256 * k + u) r.val : ℝ) : EReal) := by
  unfold gather
  rw [gatherProduct_apply, ← sum_coe 256 (fun u => X p (256 * k + u)) (fun u => sel (256 * k + u) r.val)]
  refine Finset.sum_congr rfl fun u _ => ?_
  rw [xPiece_apply, pPiece_apply, hx, hp]

/-- The running sums after piece `k` are the sums by residue over the first `k + 1` pieces. -/
theorem carry_coe (hx : ∀ (p : Fin 512) (t : Fin 4096), x0 (ix2 p t) = ((X p t.val : ℝ) : EReal))
    (hp : ∀ (j : Fin 16) (u : Fin 256) (r : Fin 16), x2 (ix3 j u r) = ((sel (256 * j.val + u.val) r.val : ℝ) : EReal))
    (k : ℕ) (hk : k < 16) (p : Fin 512) (r : Fin 16) :
    carry x0 x2 k hk (ix2 p r) = ((carrySum (X p) (k + 1) r.val : ℝ) : EReal) := by
  induction k with
  | zero =>
    show gather x0 x2 0 hk (ix2 p r) = _
    rw [gather_coe hx hp]
    unfold carrySum
    rw [sum_range_one]
  | succ k ih =>
    show carry x0 x2 k _ (ix2 p r) + gather x0 x2 (k + 1) hk (ix2 p r) = _
    rw [ih, gather_coe hx hp]
    unfold carrySum
    rw [sum_range_succ _ (k + 1), EReal.coe_add]

theorem local_coe (hx : ∀ (p : Fin 512) (t : Fin 4096), x0 (ix2 p t) = ((X p t.val : ℝ) : EReal))
    (hd : ∀ u v : Fin 256, x1 (ix2 u v) = ((diagW u.val v.val : ℝ) : EReal))
    (hc : ∀ t : Fin 4096, x4 (ix2 (0 : Fin 1) t) = ((edgeW t.val : ℝ) : EReal))
    (k : ℕ) (hk : k < 16) (p : Fin 512) (v : Fin 256) :
    local_ x0 x1 x4 k hk (ix2 p v)
      = ((∑ u ∈ range 256, X p (256 * k + u) * diagW u v.val + X p 0 * edgeW (256 * k + v.val) : ℝ) : EReal) := by
  unfold local_
  show matmul _ none _ _ _ (ix2 p v) + mulf _ _ (ix2 p v) = _
  rw [diagProduct_apply, edgeProduct_apply, firstCol_apply, cPiece_apply, hx, hc, EReal.coe_add, EReal.coe_mul,
    ← sum_coe 256 (fun u => X p (256 * k + u)) (fun u => diagW u v.val)]
  refine congrArg₂ _ (Finset.sum_congr rfl fun u _ => ?_) rfl
  rw [xPiece_apply, wholeDiag_apply, hx, hd]

/-- The stored piece `k` is the block sum of each row. -/
theorem piece_coe (hx : ∀ (p : Fin 512) (t : Fin 4096), x0 (ix2 p t) = ((X p t.val : ℝ) : EReal))
    (hd : ∀ u v : Fin 256, x1 (ix2 u v) = ((diagW u.val v.val : ℝ) : EReal))
    (hp : ∀ (j : Fin 16) (u : Fin 256) (r : Fin 16), x2 (ix3 j u r) = ((sel (256 * j.val + u.val) r.val : ℝ) : EReal))
    (hf : ∀ (i : Fin 16) (r : Fin 16) (v : Fin 256), x3 (ix3 i r v) = ((expandW i.val r.val v.val : ℝ) : EReal))
    (hc : ∀ t : Fin 4096, x4 (ix2 (0 : Fin 1) t) = ((edgeW t.val : ℝ) : EReal))
    (k : ℕ) (hk : k < 16) (p : Fin 512) (v : Fin 256) :
    piece x0 x1 x2 x3 x4 k hk (ix2 p v) = ((blockSum (X p) k v.val : ℝ) : EReal) := by
  unfold blockSum
  cases k with
  | zero =>
    show local_ x0 x1 x4 0 hk (ix2 p v) = _
    rw [local_coe hx hd hc]
    unfold carrySum
    simp only [sum_range_zero, zero_mul, sum_const_zero, add_zero]
  | succ k =>
    show local_ x0 x1 x4 (k + 1) hk (ix2 p v) + matmul dot_S512x16_S16x256_S512x256_1_0_0_1_n_n none (carry x0 x2 k _) (fPiece x3 (k + 1) hk) _ (ix2 p v) = _
    rw [local_coe hx hd hc, expandProduct_apply, EReal.coe_add (∑ u ∈ range 256, X p (256 * (k + 1) + u) * diagW u v.val + _),
      ← sum_coe 16 (fun r => carrySum (X p) (k + 1) r) (fun r => expandW (k + 1) r v.val)]
    refine congrArg₂ _ rfl (Finset.sum_congr rfl fun r _ => ?_)
    rw [carry_coe hx hp, fPiece_apply, hf]

/-! ## The block -/

/-- **The block's result at row `p`, column `t`** is the block sum of row `p`, for real entries and weights. -/
theorem out_coe (hx : ∀ (p : Fin 512) (t : Fin 4096), x0 (ix2 p t) = ((X p t.val : ℝ) : EReal))
    (hd : ∀ u v : Fin 256, x1 (ix2 u v) = ((diagW u.val v.val : ℝ) : EReal))
    (hp : ∀ (j : Fin 16) (u : Fin 256) (r : Fin 16), x2 (ix3 j u r) = ((sel (256 * j.val + u.val) r.val : ℝ) : EReal))
    (hf : ∀ (i : Fin 16) (r : Fin 16) (v : Fin 256), x3 (ix3 i r v) = ((expandW i.val r.val v.val : ℝ) : EReal))
    (hc : ∀ t : Fin 4096, x4 (ix2 (0 : Fin 1) t) = ((edgeW t.val : ℝ) : EReal)) (y : S512x4096.Idx) :
    out0_5 x0 x1 x2 x3 x4 y = ((blockSum (X (y 0)) ((y 1).val / 256) ((y 1).val % 256) : ℝ) : EReal) := by
  have key : ∀ (k : ℕ) (hk : k < 16) (x : S512x256.Idx), piece x0 x1 x2 x3 x4 k hk x
      = (fun y : S512x4096.Idx => ((blockSum (X (y 0)) ((y 1).val / 256) ((y 1).val % 256) : ℝ) : EReal)) ((colsX k hk).emb x) := by
    intro k hk x
    obtain ⟨p, v, rfl⟩ : ∃ (p : Fin 512) (v : Fin 256), x = ix2 p v := ⟨x 0, x 1, by funext a; fin_cases a <;> rfl⟩
    rw [piece_coe hx hd hp hf hc]
    have h0 : (colsX k hk).emb (ix2 p v) 0 = p := Fin.ext (by show 0 + 1 * p.val = p.val; omega)
    have h1 : ((colsX k hk).emb (ix2 p v) 1).val = 256 * k + v.val := by show 256 * k + 1 * v.val = _; omega
    have hl := v.isLt
    dsimp only
    rw [h0, h1, show (256 * k + v.val) / 256 = k by omega, show (256 * k + v.val) % 256 = v.val by omega]
  unfold out0_5
  refine View.canon_apply_of_pieces (Val := Elt Ideal) (fun y : S512x4096.Idx => ((blockSum (X (y 0)) ((y 1).val / 256) ((y 1).val % 256) : ℝ) : EReal)) _ ?_ y (cover0_5 _ _ _ _ _ _ _ _ _ _ _ _ _ _ _ _ y)
  simp only [List.forall_mem_cons, List.not_mem_nil, false_implies, implies_true, and_true]
  exact ⟨key 15 (by decide), key 14 (by decide), key 13 (by decide), key 12 (by decide), key 11 (by decide), key 10 (by decide),
    key 9 (by decide), key 8 (by decide), key 7 (by decide), key 6 (by decide), key 5 (by decide), key 4 (by decide),
    key 3 (by decide), key 2 (by decide), key 1 (by decide), key 0 (by decide)⟩

end Cert.KernelIdeal.Body

end
-- ==== Proof.Words.lean ====
/-
  The index arithmetic of the weights, on 32-bit words: the remainder modulo nine as the host program computes it
  (`remWord`), and the comparisons with it read as the real numbers one and zero.
-/
module

public import Idealize.ShloMosaic.Lib.Pointwise
public import proofs.«01_k».proof.Proof.CombSum

@[expose] public section

noncomputable section

namespace Cert.Words

open Idealize.ShloMosaic

/-- The remainder of `a` modulo nine with the divisor's sign: the truncated remainder, nine added where it is negative. -/
def remWord (a : BitVec 32) : BitVec 32 :=
  Scalar.select (IntOp.andi (IntOp.cmpi .ne (IntOp.cmpi .slt (IntOp.remsi .host a 9#32) 0#32) (IntOp.cmpi .slt 9#32 0#32))
      (IntOp.cmpi .ne (IntOp.remsi .host a 9#32) 0#32))
    (IntOp.addi (IntOp.remsi .host a 9#32) 9#32) (IntOp.remsi .host a 9#32)

/-- A small integer's word reads back as the integer. -/
theorem toInt_ofInt (z : ℤ) (h : -100000 ≤ z) (h' : z ≤ 100000) : (BitVec.ofInt 32 z).toInt = z := by
  rw [BitVec.toInt_ofInt, Int.bmod_def]
  omega

theorem ofInt_natCast (n : ℕ) : BitVec.ofNat 32 n = BitVec.ofInt 32 (n : ℤ) := (BitVec.ofInt_natCast 32 n).symm

/-- The truncated remainder modulo nine is the remainder in `0 … 8`, less nine for a negative integer that nine does not divide. -/
theorem tmod_nine (z : ℤ) : z.tmod 9 = if 0 ≤ z ∨ z % 9 = 0 then z % 9 else z % 9 - 9 := by
  have e : z.tmod 9 = z % 9 - ↑(if 0 ≤ z ∨ (9 : ℤ) ∣ z then 0 else Int.natAbs 9) := Int.tmod_eq_emod
  rw [e]
  by_cases h : 0 ≤ z ∨ z % 9 = 0
  · rw [if_pos (by omega), if_pos h]; simp
  · rw [if_neg (by omega), if_neg h]; rfl

/-- The truncated remainder of a small integer's word is the truncated remainder's word. -/
theorem remsi_ofInt (z : ℤ) (h : -100000 ≤ z) (h' : z ≤ 100000) : IntOp.remsi .host (BitVec.ofInt 32 z) 9#32 = BitVec.ofInt 32 (z.tmod 9) := by
  unfold IntOp.remsi
  rw [if_neg (by simp [IntOp.SDivCorner])]
  refine BitVec.toInt_inj.1 ?_
  have e := tmod_nine z
  have h9 : (9#32 : BitVec 32).toInt = 9 := rfl
  rw [BitVec.toInt_srem, toInt_ofInt z h h', h9, toInt_ofInt]
  · split at e <;> omega
  · split at e <;> omega

/-- The host's remainder of a small integer's word is the word of the integer's remainder in `0 … 8`. -/
theorem remWord_ofInt (z : ℤ) (h : -100000 ≤ z) (h' : z ≤ 100000) : remWord (BitVec.ofInt 32 z) = BitVec.ofInt 32 (z % 9) := by
  have e := tmod_nine z
  have h0 : (0#32 : BitVec 32).toInt = 0 := rfl
  unfold remWord
  rw [remsi_ofInt z h h']
  have hb : -8 ≤ z.tmod 9 ∧ z.tmod 9 ≤ 8 := by split at e <;> omega
  have ht := toInt_ofInt (z.tmod 9) (by omega) (by omega)
  by_cases hn : z.tmod 9 < 0
  · have hs : (BitVec.ofInt 32 (z.tmod 9)).slt 0#32 = true := by rw [BitVec.slt_iff_toInt_lt, ht, h0]; exact hn
    have hne : BitVec.ofInt 32 (z.tmod 9) ≠ 0#32 := fun q => by rw [q, h0] at ht; omega
    have hc : (IntOp.andi (IntOp.cmpi .ne (IntOp.cmpi .slt (BitVec.ofInt 32 (z.tmod 9)) 0#32) (IntOp.cmpi .slt (9#32 : BitVec 32) 0#32))
        (IntOp.cmpi .ne (BitVec.ofInt 32 (z.tmod 9)) 0#32)) = 1 := by
      have : IntOp.cmpi .slt (BitVec.ofInt 32 (z.tmod 9)) 0#32 = 1#1 := by simp only [IntOp.cmpi, hs]; rfl
      have h2 : IntOp.cmpi .ne (BitVec.ofInt 32 (z.tmod 9)) 0#32 = 1#1 := by simp only [IntOp.cmpi, bne_iff_ne.2 hne]; rfl
      rw [this, h2]; rfl
    rw [hc]
    show IntOp.addi (BitVec.ofInt 32 (z.tmod 9)) (BitVec.ofInt 32 9) = _
    unfold IntOp.addi
    rw [← BitVec.ofInt_add]
    congr 1
    split at e <;> omega
  · have hs : (BitVec.ofInt 32 (z.tmod 9)).slt 0#32 = false := by
      rw [Bool.eq_false_iff, ne_eq, BitVec.slt_iff_toInt_lt, ht, h0]; exact hn
    have hc : (IntOp.andi (IntOp.cmpi .ne (IntOp.cmpi .slt (BitVec.ofInt 32 (z.tmod 9)) 0#32) (IntOp.cmpi .slt (9#32 : BitVec 32) 0#32))
        (IntOp.cmpi .ne (BitVec.ofInt 32 (z.tmod 9)) 0#32)) = 0 := by
      have : IntOp.cmpi .slt (BitVec.ofInt 32 (z.tmod 9)) 0#32 = 0#1 := by simp only [IntOp.cmpi, hs]; rfl
      rw [this]
      simp [IntOp.andi, IntOp.cmpi]
    rw [hc]
    show BitVec.ofInt 32 (z.tmod 9) = _
    congr 1
    split at e <;> omega

/-- The equality test of two small integers' words, as a one-bit word. -/
theorem cmpi_eq_ofInt (z w : ℤ) (h : -100000 ≤ z) (h' : z ≤ 100000) (k : -100000 ≤ w) (k' : w ≤ 100000) :
    IntOp.cmpi .eq (BitVec.ofInt 32 z) (BitVec.ofInt 32 w) = if z = w then 1#1 else 0#1 := by
  have : BitVec.ofInt 32 z = BitVec.ofInt 32 w ↔ z = w := by rw [← BitVec.toInt_inj, toInt_ofInt z h h', toInt_ofInt w k k']
  by_cases e : z = w
  · subst e
    simp [IntOp.cmpi]
  · have : ¬ BitVec.ofInt 32 z = BitVec.ofInt 32 w := fun q => e (this.1 q)
    rw [if_neg e]
    simp only [IntOp.cmpi, beq_eq_false_iff_ne.2 this]
    rfl

theorem cmpi_slt_ofInt (z w : ℤ) (h : -100000 ≤ z) (h' : z ≤ 100000) (k : -100000 ≤ w) (k' : w ≤ 100000) :
    IntOp.cmpi .slt (BitVec.ofInt 32 z) (BitVec.ofInt 32 w) = if z < w then 1#1 else 0#1 := by
  have : (BitVec.ofInt 32 z).slt (BitVec.ofInt 32 w) = decide (z < w) := by
    rw [BitVec.slt_eq_decide, toInt_ofInt z h h', toInt_ofInt w k k']
  simp only [IntOp.cmpi, this]
  by_cases e : z < w <;> simp [e]

theorem cmpi_sge_ofInt (z w : ℤ) (h : -100000 ≤ z) (h' : z ≤ 100000) (k : -100000 ≤ w) (k' : w ≤ 100000) :
    IntOp.cmpi .sge (BitVec.ofInt 32 z) (BitVec.ofInt 32 w) = if w ≤ z then 1#1 else 0#1 := by
  have : (BitVec.ofInt 32 w).sle (BitVec.ofInt 32 z) = decide (w ≤ z) := by
    rw [BitVec.sle_eq_decide, toInt_ofInt z h h', toInt_ofInt w k k']
  simp only [IntOp.cmpi, this]
  by_cases e : w ≤ z <;> simp [e]

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A test's bit, read as a number, is one or zero. -/
theorem uitofp_ite (φ : FTy) (p : Prop) [Decidable p] :
    (FloatOps.uitofp φ (if p then 1#1 else 0#1) : Ideal φ) = (((if p then 1 else 0 : ℝ)) : EReal) := by
  show (((if p then 1#1 else 0#1 : BitVec 1).toNat : ℝ) : EReal) = _
  by_cases hp : p <;> simp [hp]

/-- The literal eight. -/
theorem eight : (Ideal.ofBits .f32 0x41000000#32) = ((8 : ℝ) : EReal) := by
  simp [Ideal.ofBits, Ideal.ieee, -EReal.coe_mul]
  norm_num

end Cert.Words

end
-- ==== Proof.Weights.lean ====
/-
  What the launch finds in its arrays: the input as 16384 rows, and the four weights that the host computes from index
  arithmetic alone, each equal to its closed form in CombSum.lean.
-/
module

public import proofs.«01_k».proof.Proof.Gen.KernelIdeal.Frame
public import proofs.«01_k».proof.Proof.CombSum
public import proofs.«01_k».proof.Proof.Words
public import Idealize.ShloMosaic.Lib.StableHlo.RunRead
public import Idealize.ShloMosaic.Lib.Pointwise

@[expose] public section

set_option maxRecDepth 16384
set_option maxHeartbeats 4000000

noncomputable section

namespace Cert.KernelIdeal.Weights

open Cert.KernelIdeal Cert.KernelIdeal.Gen Idealize.ShloMosaic Idealize.ShloMosaic.TcCoe Idealize.ShloMosaic.StableHlo
open Cert.Comb Cert.Words

variable (m : (ℓ : Loc nD τ sig) → Buf (Elt Ideal) ℓ) (c : Dev nD)

/-- Eight times the difference of two tests. -/
theorem eight_mul_sub (a b : ℝ) : Ideal.ofBits .f32 0x41000000#32 * ((a : EReal) - (b : EReal)) = ((8 * (a - b) : ℝ) : EReal) := by
  rw [eight, ← EReal.coe_sub, ← EReal.coe_mul]

/-- Row `256 g + h` of the launch's input is the argument's row `(g, h)`. -/
theorem rows_apply (q : Fin 16384) (t : Fin 4096) :
    V (F := Ideal) m c main_call0_v0 (ix2 q t)
      = m (c, Proc.tc.devRef main_arg0) (ix3 (⟨q.val / 256, by omega⟩ : Fin 64) (⟨q.val % 256, by omega⟩ : Fin 256) t) := by
  show StableHlo.after (List.flatten [hostOps0]) _ _ _ = _
  simp only [hostOps0, List.flatten_cons, List.flatten_nil, List.append_nil, List.cons_append, List.nil_append, TRef.binary, TRef.nullary, TRef.unary, TRef.ternary, TRef.reshape, TRef.toBuf, TRef.ofBuf, cast_eq]
  after_reads_simp
  pointwise

/-- The edge weight, as index arithmetic on words. -/
theorem edge_words (t : Fin 4096) :
    V (F := Ideal) m c main_call0_v94 (ix2 (0 : Fin 1) t)
      = Ideal.ofBits .f32 0x41000000#32 * ((FloatOps.uitofp .f32 (IntOp.cmpi .eq (remWord (BitVec.ofNat 32 t.val)) 5#32) : Ideal .f32)
          - (FloatOps.uitofp .f32 (IntOp.cmpi .eq (remWord (BitVec.ofNat 32 t.val)) 0#32) : Ideal .f32)) := by
  show StableHlo.after (List.flatten [hostOps0]) _ _ _ = _
  simp only [hostOps0, List.flatten_cons, List.flatten_nil, List.append_nil, List.cons_append, List.nil_append, TRef.binary, TRef.nullary, TRef.unary, TRef.ternary, TRef.reshape, TRef.toBuf, TRef.ofBuf, cast_eq]
  after_reads_simp
  pointwise
  rfl

/-- The expanding weight, as index arithmetic on words. -/
theorem expand_words (i r : Fin 16) (v : Fin 256) :
    V (F := Ideal) m c main_call0_v81 (ix3 i r v)
      = Ideal.ofBits .f32 0x41000000#32
        * ((FloatOps.uitofp .f32 (IntOp.cmpi .eq (remWord (IntOp.addi (BitVec.ofNat 32 v.val) (IntOp.muli 4#32 (BitVec.ofNat 32 i.val)))) (BitVec.ofNat 32 r.val)) : Ideal .f32)
          - (FloatOps.uitofp .f32 (IntOp.cmpi .eq (remWord (IntOp.addi (IntOp.subi (BitVec.ofNat 32 v.val) 1#32) (IntOp.muli 4#32 (BitVec.ofNat 32 i.val)))) (BitVec.ofNat 32 r.val)) : Ideal .f32)) := by
  show StableHlo.after (List.flatten [hostOps0]) _ _ _ = _
  simp only [hostOps0, List.flatten_cons, List.flatten_nil, List.append_nil, List.cons_append, List.nil_append, TRef.binary, TRef.nullary, TRef.unary, TRef.ternary, TRef.reshape, TRef.toBuf, TRef.ofBuf, cast_eq]
  after_reads_simp
  pointwise
  rfl

/-- The selection of residues, as index arithmetic on words. -/
theorem gather_words (j : Fin 16) (u : Fin 256) (r : Fin 16) :
    V (F := Ideal) m c main_call0_v50 (ix3 j u r)
      = (FloatOps.uitofp .bf16 (IntOp.andi (IntOp.cmpi .eq (remWord (BitVec.ofNat 32 u.val)) (remWord (IntOp.subi (BitVec.ofNat 32 r.val) (IntOp.muli 4#32 (BitVec.ofNat 32 j.val)))))
          (IntOp.cmpi .slt (BitVec.ofNat 32 r.val) 9#32)) : Ideal .bf16) := by
  show StableHlo.after (List.flatten [hostOps0]) _ _ _ = _
  simp only [hostOps0, List.flatten_cons, List.flatten_nil, List.append_nil, List.cons_append, List.nil_append, TRef.binary, TRef.nullary, TRef.unary, TRef.ternary, TRef.reshape, TRef.toBuf, TRef.ofBuf, cast_eq]
  after_reads_simp
  pointwise
  rfl

/-- The 256 × 256 weight, as index arithmetic on words. -/
theorem diag_words (u v : Fin 256) :
    V (F := Ideal) m c main_call0_v29 (ix2 u v)
      = Ideal.ofBits .f32 0x41000000#32
        * ((FloatOps.uitofp .f32 (IntOp.andi (IntOp.cmpi .eq (remWord (IntOp.subi (BitVec.ofNat 32 v.val) (BitVec.ofNat 32 u.val))) 0#32)
              (IntOp.cmpi .sge (IntOp.subi (BitVec.ofNat 32 v.val) (BitVec.ofNat 32 u.val)) 0#32)) : Ideal .f32)
          - (FloatOps.uitofp .f32 (IntOp.andi (IntOp.cmpi .eq (remWord (IntOp.subi (IntOp.subi (BitVec.ofNat 32 v.val) (BitVec.ofNat 32 u.val)) 1#32)) 0#32)
              (IntOp.cmpi .sge (IntOp.subi (IntOp.subi (BitVec.ofNat 32 v.val) (BitVec.ofNat 32 u.val)) 1#32) 0#32)) : Ideal .f32)) := by
  show StableHlo.after (List.flatten [hostOps0]) _ _ _ = _
  simp only [hostOps0, List.flatten_cons, List.flatten_nil, List.append_nil, List.cons_append, List.nil_append, TRef.binary, TRef.nullary, TRef.unary, TRef.ternary, TRef.reshape, TRef.toBuf, TRef.ofBuf, cast_eq]
  after_reads_simp
  pointwise
  rfl

/-! ## The closed forms -/

theorem word_const (n : ℕ) : BitVec.ofNat 32 n = BitVec.ofInt 32 (n : ℤ) := ofInt_natCast n

theorem subi_ofInt (z w : ℤ) : IntOp.subi (BitVec.ofInt 32 z) (BitVec.ofInt 32 w) = BitVec.ofInt 32 (z - w) := by
  unfold IntOp.subi; rw [Int.sub_eq_add_neg, BitVec.ofInt_add, BitVec.ofInt_neg, ← BitVec.sub_eq_add_neg]

theorem addi_ofInt (z w : ℤ) : IntOp.addi (BitVec.ofInt 32 z) (BitVec.ofInt 32 w) = BitVec.ofInt 32 (z + w) := by
  unfold IntOp.addi; rw [BitVec.ofInt_add]

theorem muli_ofInt (z w : ℤ) : IntOp.muli (BitVec.ofInt 32 z) (BitVec.ofInt 32 w) = BitVec.ofInt 32 (z * w) := by
  unfold IntOp.muli; rw [BitVec.ofInt_mul]

/-- The edge weight is eight where `t` leaves five modulo nine, minus eight where it leaves zero. -/
theorem edge_apply (t : Fin 4096) : V (F := Ideal) m c main_call0_v94 (ix2 (0 : Fin 1) t) = ((edgeW t.val : ℝ) : EReal) := by
  have ht := t.isLt
  rw [edge_words, word_const t.val, remWord_ofInt _ (by omega) (by omega), word_const 5, word_const 0,
    cmpi_eq_ofInt _ _ (by omega) (by omega) (by omega) (by omega), cmpi_eq_ofInt _ _ (by omega) (by omega) (by omega) (by omega),
    uitofp_ite, uitofp_ite, eight_mul_sub]
  unfold edgeW sel
  rw [if_congr (show ((t.val : ℤ) % 9 = ((5 : ℕ) : ℤ)) ↔ t.val % 9 = 5 by omega) rfl rfl,
    if_congr (show ((t.val : ℤ) % 9 = ((0 : ℕ) : ℤ)) ↔ t.val % 9 = 0 by omega) rfl rfl]

/-- The expanding weight of residue `r` in result `v` of block `i`. -/
theorem expand_apply (i r : Fin 16) (v : Fin 256) :
    V (F := Ideal) m c main_call0_v81 (ix3 i r v) = ((expandW i.val r.val v.val : ℝ) : EReal) := by
  have hi := i.isLt
  have hr := r.isLt
  have hv := v.isLt
  rw [expand_words, word_const v.val, word_const i.val, word_const r.val, word_const 1, word_const 4, subi_ofInt, muli_ofInt, addi_ofInt, addi_ofInt,
    remWord_ofInt _ (by omega) (by omega), remWord_ofInt _ (by omega) (by omega),
    cmpi_eq_ofInt _ _ (by omega) (by omega) (by omega) (by omega), cmpi_eq_ofInt _ _ (by omega) (by omega) (by omega) (by omega),
    uitofp_ite, uitofp_ite, eight_mul_sub]
  unfold expandW sel
  rw [if_congr (show ((v.val : ℤ) + ((4 : ℕ) : ℤ) * i.val) % 9 = (r.val : ℤ) ↔ (256 * i.val + v.val) % 9 = r.val by omega) rfl rfl,
    if_congr (show ((v.val : ℤ) - ((1 : ℕ) : ℤ) + ((4 : ℕ) : ℤ) * i.val) % 9 = (r.val : ℤ) ↔ (256 * i.val + v.val + 8) % 9 = r.val by omega) rfl rfl]

/-- The selection: one where entry `u` of block `j` has residue `r`. -/
theorem gather_apply (j : Fin 16) (u : Fin 256) (r : Fin 16) :
    V (F := Ideal) m c main_call0_v50 (ix3 j u r) = ((sel (256 * j.val + u.val) r.val : ℝ) : EReal) := by
  have hj := j.isLt
  have hr := r.isLt
  have hu := u.isLt
  rw [gather_words, word_const u.val, word_const j.val, word_const r.val, word_const 9, word_const 4, muli_ofInt, subi_ofInt,
    remWord_ofInt _ (by omega) (by omega), remWord_ofInt _ (by omega) (by omega),
    cmpi_eq_ofInt _ _ (by omega) (by omega) (by omega) (by omega), cmpi_slt_ofInt _ _ (by omega) (by omega) (by omega) (by omega),
    andi_ite, uitofp_ite]
  unfold sel
  rw [if_congr (show ((u.val : ℤ) % 9 = ((r.val : ℤ) - ((4 : ℕ) : ℤ) * j.val) % 9 ∧ (r.val : ℤ) < ((9 : ℕ) : ℤ)) ↔ (256 * j.val + u.val) % 9 = r.val by omega) rfl rfl]

/-- The 256 × 256 weight. -/
theorem diag_apply (u v : Fin 256) : V (F := Ideal) m c main_call0_v29 (ix2 u v) = ((diagW u.val v.val : ℝ) : EReal) := by
  have hu := u.isLt
  have hv := v.isLt
  rw [diag_words, word_const u.val, word_const v.val, word_const 0, word_const 1, subi_ofInt, subi_ofInt,
    remWord_ofInt _ (by omega) (by omega), remWord_ofInt _ (by omega) (by omega),
    cmpi_eq_ofInt _ _ (by omega) (by omega) (by omega) (by omega), cmpi_eq_ofInt _ _ (by omega) (by omega) (by omega) (by omega),
    cmpi_sge_ofInt _ _ (by omega) (by omega) (by omega) (by omega), cmpi_sge_ofInt _ _ (by omega) (by omega) (by omega) (by omega),
    andi_ite, andi_ite, uitofp_ite, uitofp_ite, eight_mul_sub]
  unfold diagW hit
  rw [if_congr (show (((v.val : ℤ) - u.val) % 9 = ((0 : ℕ) : ℤ) ∧ ((0 : ℕ) : ℤ) ≤ (v.val : ℤ) - u.val) ↔ (u.val ≤ v.val ∧ u.val % 9 = v.val % 9) by omega) rfl rfl,
    if_congr (show (((v.val : ℤ) - u.val - ((1 : ℕ) : ℤ)) % 9 = ((0 : ℕ) : ℤ) ∧ ((0 : ℕ) : ℤ) ≤ (v.val : ℤ) - u.val - ((1 : ℕ) : ℤ)) ↔ (u.val + 1 ≤ v.val ∧ (u.val + 1) % 9 = v.val % 9) by omega) rfl rfl]

end Cert.KernelIdeal.Weights

end
-- ==== Proof.Rows.lean ====
/-
  The input's rows as sequences of real numbers, the result both programs are shown to compute from them, and what the
  precondition says of an input: no entry is an infinity.
-/
module

public import proofs.«01_k».proof.Pre_finite
public import proofs.«01_k».proof.Proof.CombSum
public import Idealize.ShloMosaic.Lib.Pointwise

@[expose] public section

noncomputable section

namespace Cert.Comb

open Idealize.ShloMosaic

/-- The shape of the input and of the result: 64 × 256 rows of 4096. -/
abbrev Rows : Shape := ⟨3, ![64, 256, 4096]⟩

/-- Row `(g, h)` as a sequence of reals, zero beyond its end. -/
def rowReal (x : Rows.Idx → EReal) (g : Fin 64) (h : Fin 256) (n : ℕ) : ℝ :=
  if hn : n < 4096 then (x (ix3 g h ⟨n, hn⟩)).toReal else 0

/-- The result: each row's chain sums. -/
def combed (x : Rows.Idx → EReal) (i : Rows.Idx) : EReal := ((chainSum (rowReal x (i 0) (i 1)) (i 2).val : ℝ) : EReal)

/-- Every entry is a real number. -/
def RealEntries (x : Rows.Idx → EReal) : Prop := ∀ i, x i = (((x i).toReal : ℝ) : EReal)

/-- Of an input of reals, an entry is its row's term. -/
theorem RealEntries.row {x : Rows.Idx → EReal} (hx : RealEntries x) (g : Fin 64) (h : Fin 256) (t : Fin 4096) :
    x (ix3 g h t) = ((rowReal x g h t.val : ℝ) : EReal) := by
  unfold rowReal
  rw [dif_pos t.isLt]
  exact hx _

/-- The word of the bound the precondition compares with is positive infinity. -/
theorem infinity_word : Ideal.ofBits .f32 0x7F800000#32 = ⊤ := by
  simp [Ideal.ofBits, Ideal.ieee]

/-- An extended real whose absolute value is below infinity is a real. -/
theorem eq_toReal_of_abs_lt (a : EReal) (h : max a (-a) < ⊤) : a = ((a.toReal : ℝ) : EReal) := by
  induction a using EReal.rec with
  | bot => simp at h
  | coe a => simp
  | top => simp at h

/-- The precondition holds only of inputs whose entries are reals. -/
theorem realEntries_of_finite [Cert.Pre_finite.Facts] (x : Rows.Idx → EReal)
    (h : Cert.Pre_finite.fn (F := Ideal) x = fun _ => 1#1) : RealEntries x := by
  intro i
  have hi : Ideal.cmp .olt (max (x i) (-(x i))) (Ideal.ofBits .f32 0x7F800000#32) = 1#1 := congrFun h i
  refine eq_toReal_of_abs_lt _ ?_
  rw [infinity_word] at hi
  by_contra hn
  simp [Ideal.cmp, hn] at hi

end Cert.Comb

end
-- ==== Proof.Array.lean ====
/-
  The kernel's result as one array: the launch's blocks assembled, then folded to the input's shape, are the chain sums of
  the input's rows.
-/
module

public import proofs.«01_k».proof.Proof.Body
public import proofs.«01_k».proof.Proof.Weights
public import proofs.«01_k».proof.Proof.Rows
public import Idealize.ShloMosaic.Lib.Pipeline.ValueKit
public import Idealize.ShloMosaic.Lib.StableHlo.RunRead

@[expose] public section

set_option maxRecDepth 16384
set_option maxHeartbeats 1000000

noncomputable section

namespace Cert.KernelIdeal.Array

open Cert.KernelIdeal Cert.KernelIdeal.Gen Idealize.ShloMosaic Idealize.ShloMosaic.TcCoe Idealize.ShloMosaic.Pipeline
open Cert.Comb Idealize.ShloMosaic.StableHlo Idealize.SL.Sem

variable (m : (ℓ : Loc nD τ sig) → Buf (Elt Ideal) ℓ) (c : Dev nD)

/-- The input as launched. -/
abbrev input : Rows.Idx → EReal := m (c, Proc.tc.devRef main_arg0)

/-- Row `q` of the 16384 the launch sees, as a sequence of reals. -/
def seqOf (q : ℕ) : ℕ → ℝ :=
  if hq : q < 16384 then rowReal (input m c) ⟨q / 256, by omega⟩ ⟨q % 256, Nat.mod_lt _ (by decide)⟩ else fun _ => 0

theorem index_rows : ∀ t : Fin cfg0.N, win0_0.index t = ![t.val, 0] := (by decide +kernel : ∀ t : Fin grid0.N, _)
theorem index_diag : ∀ t : Fin cfg0.N, win0_1.index t = ![0, 0] := (by decide +kernel : ∀ t : Fin grid0.N, _)
theorem index_gather : ∀ t : Fin cfg0.N, win0_2.index t = ![0, 0, 0] := (by decide +kernel : ∀ t : Fin grid0.N, _)
theorem index_expand : ∀ t : Fin cfg0.N, win0_3.index t = ![0, 0, 0] := (by decide +kernel : ∀ t : Fin grid0.N, _)
theorem index_edge : ∀ t : Fin cfg0.N, win0_4.index t = ![0, 0] := (by decide +kernel : ∀ t : Fin grid0.N, _)
theorem index_out : ∀ t : Fin cfg0.N, win0_5.index t = ![t.val, 0] := (by decide +kernel : ∀ t : Fin grid0.N, _)

theorem point_lt (t : Fin cfg0.N) : t.val < 32 := t.isLt

/-- The block of rows at a point: rows `512 t … 512 t + 511`. -/
theorem block_rows (hx : RealEntries (input m c)) (t : Fin cfg0.N) (p : Fin 512) (u : Fin 4096) :
    iblk m c 0 t (ix2 p u) = ((seqOf m c (512 * t.val + p.val) u.val : ℝ) : EReal) := by
  have ht := point_lt t
  have hp := p.isLt
  have e : iblk m c 0 t (ix2 p u) = V (F := Ideal) m c main_call0_v0 (ix2 (⟨512 * t.val + p.val, by omega⟩ : Fin 16384) u) := by
    blk_simp [iblk]
    congr 1
    blk_ext [index_rows]
  rw [e, Weights.rows_apply]
  refine (hx.row _ _ _).trans ?_
  rw [seqOf, dif_pos (by omega)]

/-- The difference weights, whole at every point. -/
theorem block_diag (t : Fin cfg0.N) (u v : Fin 256) : iblk m c 1 t (ix2 u v) = ((diagW u.val v.val : ℝ) : EReal) := by
  rw [← Weights.diag_apply m c]
  blk_simp [iblk]
  congr 1
  blk_ext [index_diag]

/-- The selections by residue, whole at every point. -/
theorem block_gather (t : Fin cfg0.N) (j : Fin 16) (u : Fin 256) (r : Fin 16) :
    iblk m c 2 t (ix3 j u r) = ((sel (256 * j.val + u.val) r.val : ℝ) : EReal) := by
  rw [← Weights.gather_apply m c]
  blk_simp [iblk]
  congr 1
  blk_ext [index_gather]

/-- The spreading weights, whole at every point. -/
theorem block_expand (t : Fin cfg0.N) (i : Fin 16) (r : Fin 16) (v : Fin 256) :
    iblk m c 3 t (ix3 i r v) = ((expandW i.val r.val v.val : ℝ) : EReal) := by
  rw [← Weights.expand_apply m c]
  blk_simp [iblk]
  congr 1
  blk_ext [index_expand]

/-- The edge weights, whole at every point. -/
theorem block_edge (t : Fin cfg0.N) (u : Fin 4096) : iblk m c 4 t (ix2 (0 : Fin 1) u) = ((edgeW u.val : ℝ) : EReal) := by
  rw [← Weights.edge_apply m c]
  blk_simp [iblk]
  congr 1
  blk_ext [index_edge]

/-- **The launch's array**: row `q`, column `t` holds row `q`'s chain sum at `t`. -/
theorem launch_array (hx : RealEntries (input m c)) :
    (dats m 0 c).arrAt 5 cfg0.N = fun i : S16384x4096.Idx => ((chainSum (seqOf m c (i 0).val) (i 1).val : ℝ) : EReal) := by
  refine (dats m 0 c).arrAt_eq_of_covers 5 _ (by decide +kernel) fun t hf y => ?_
  blk_simp
  rw [after0_5, Body.out_coe (X := fun p => seqOf m c (512 * t.val + p.val)) (block_rows m c hx t) (block_diag m c t) (block_gather m c t)
    (block_expand m c t) (block_edge m c t)]
  have hy : (y 1).val < 4096 := (y 1).isLt
  have h0 : win0_5.index t 0 = t.val := by rw [index_out]; rfl
  have h1 : win0_5.index t 1 = 0 := by rw [index_out]; rfl
  dsimp only
  rw [h0, h1, blockSum_eq_chainSum _ _ _ (by omega) (Nat.mod_lt _ (by decide)), Nat.div_add_mod, Nat.mul_comm t.val, Nat.zero_mul, Nat.zero_add]

/-- Folding 16384 rows to 64 × 256 takes row `256 g + h` to `(g, h)`. -/
theorem fold_apply (v : FVec Ideal S16384x4096 .f32) (hs : S16384x4096.ShapeCasts S64x256x4096) (g : Fin 64) (h : Fin 256) (t : Fin 4096) :
    shapeCast S64x256x4096 v hs (ix3 g h t) = v (ix2 (⟨g.val * 256 + h.val, by omega⟩ : Fin 16384) t) := by
  pointwise

/-- **The kernel's result**, folded to the input's shape, is the chain sums of the input's rows. -/
theorem result (hx : RealEntries (input m c)) :
    Pipeline.afterTail₀ cfgs (dats m) 0 (V0 m) [hostOps1] c main_v0 = combed (input m c) := by
  unfold Pipeline.afterTail₀
  simp only [hostOps1, List.flatten_cons, List.flatten_nil, List.append_nil, TRef.reshape, TRef.toBuf, TRef.ofBuf, cast_eq]
  after_reads_simp
  have harr : withArrays (cfgs 0).spec c (V0 m c) (fun w => (dats m 0 c).arrAt w (cfgs 0).N) (Proc.tc.devRef main_call0_v95)
      = (dats m 0 c).arrAt 5 cfg0.N := withArrays_arr spec0 (by decide) c _ _ 5
  funext i
  obtain ⟨g, h, t, rfl⟩ : ∃ (g : Fin 64) (h : Fin 256) (t : Fin 4096), i = ix3 g h t := ⟨i 0, i 1, i 2, by funext a; fin_cases a <;> rfl⟩
  refine (congrArg (fun v : FVec Ideal S16384x4096 .f32 => shapeCast S64x256x4096 v shapeCasts_S16384x4096_S64x256x4096 (ix3 g h t))
    (harr.trans (launch_array m c hx))).trans ?_
  rw [fold_apply]
  have hg := g.isLt
  have hh := h.isLt
  show ((chainSum (seqOf m c (g.val * 256 + h.val)) t.val : ℝ) : EReal) = ((chainSum (rowReal (input m c) g h) t.val : ℝ) : EReal)
  rw [seqOf, dif_pos (by omega)]
  rw [show (⟨(g.val * 256 + h.val) / 256, by omega⟩ : Fin 64) = g from Fin.ext (by show (g.val * 256 + h.val) / 256 = g.val; omega),
    show (⟨(g.val * 256 + h.val) % 256, by omega⟩ : Fin 256) = h from Fin.ext (by show (g.val * 256 + h.val) % 256 = h.val; omega)]

/-- The kernel run: the result is the chain sums of the input's rows, the input unchanged. -/
theorem run (hx : ∀ c, RealEntries (input m c)) (ρ : Dev nD → PrngReg) :
    θ_run defs (onTc (τ := τ) (main (F := Ideal))) ⟨m, fun _ => 0, ρ⟩ fun r => ∀ c : Dev nD,
      r.2.mem ((c.tc : Thread nD τ).loc main_v0) = combed (input m c)
      ∧ r.2.mem ((c.tc : Thread nD τ).loc main_arg0) = m ((c.tc : Thread nD τ).loc main_arg0) :=
  (θ_run defs _ _).mono (fun _ h c =>
    ⟨((h c).2 main_v0 (Pipeline.mem_restRefs_of main_v0 (by decide) (by decide))).trans (result m c (hx c)),
     ((h c).2 main_arg0 (Pipeline.mem_restRefs_of main_arg0 (by decide) (by decide))).trans (W_main_arg0 m (dats m) c)⟩) (run_main m ρ)

end Cert.KernelIdeal.Array

end
-- ==== Proof.PrefixSum.lean ====
/-
  The running sum down 456 rows, as a window sum: a window of 456 rows padded by 455 on the low side, its padding zero,
  gives at row `q` the sum of rows `0 … q`.
-/
module

public import Idealize.ShloMosaic.PureOps.Ideal
public import Idealize.ShloMosaic.Lib.Pointwise
public import Mathlib.Algebra.BigOperators.Intervals

@[expose] public section

noncomputable section

namespace Cert.Comb

open Idealize.ShloMosaic Finset

/-- Rows of nine, 456 of them to each of the 64 × 256. -/
abbrev Nines : Shape := ⟨4, ![64, 256, 456, 9]⟩

/-- The window: one column of 456. -/
abbrev Column : Shape := ⟨4, ![1, 1, 456, 1]⟩

theorem column_numel : Column.numel = 456 := by decide

/-- Position `n` of the column is its row `n`. -/
theorem column_position (n : Fin Column.numel) :
    (Column.rowMajor.symm n 0).val = 0 ∧ (Column.rowMajor.symm n 1).val = 0 ∧ (Column.rowMajor.symm n 2).val = n.val
      ∧ (Column.rowMajor.symm n 3).val = 0 := by
  have h := Shape.rowMajor_val_four (Column.rowMajor.symm n)
  rw [Equiv.apply_symm_apply] at h
  change n.val = (((Column.rowMajor.symm n 0).val * 1 + (Column.rowMajor.symm n 1).val) * 456 + (Column.rowMajor.symm n 2).val) * 1
    + (Column.rowMajor.symm n 3).val at h
  have h0 : (Column.rowMajor.symm n 0).val < 1 := (Column.rowMajor.symm n 0).isLt
  have h1 : (Column.rowMajor.symm n 1).val < 1 := (Column.rowMajor.symm n 1).isLt
  have h3 : (Column.rowMajor.symm n 3).val < 1 := (Column.rowMajor.symm n 3).isLt
  omega

/-- A left fold that adds is the sum added to the start. -/
theorem foldl_add_eq {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

/-- A window of 456 terms ending at `q`, zero before the first, sums the terms up to `q`. -/
theorem sum_window_456 (f : ℕ → EReal) (q : ℕ) (hq : q < 456) :
    ∑ n ∈ range 456, (if 455 ≤ q + n then f (q + n - 455) else 0) = ∑ k ∈ range (q + 1), f k := by
  rw [show 456 = (455 - q) + (q + 1) by omega, sum_range_add,
    sum_eq_zero (fun n hn => if_neg (by have := mem_range.1 hn; omega)), zero_add]
  refine sum_congr rfl fun k _ => ?_
  rw [if_pos (by omega), show q + (455 - q + k) - 455 = k by omega]

/-- A sum of real numbers is a real number. -/
theorem coe_sum_range (f : ℕ → ℝ) (n : ℕ) : ∑ k ∈ range n, ((f k : ℝ) : EReal) = ((∑ k ∈ range n, f k : ℝ) : EReal) := by
  induction n with
  | zero => simp
  | succ n ih => rw [sum_range_succ, sum_range_succ, ih, EReal.coe_add]

/-- **The running sum**: of real entries `f q` in one column, row `q` of the window sum is `f 0 + … + f q`. -/
theorem windowSum_apply (x : Nines.Idx → EReal) (init : EReal) (hinit : init = 0) (g : Fin 64) (e : Fin 256) (r : Fin 9) (f : ℕ → ℝ)
    (hx : ∀ k : Fin 456, x (ix4 g e k r) = ((f k.val : ℝ) : EReal))
    (h : Nines.ReduceWindows (![1, 1, 456, 1] : Fin 4 → ℕ) ![1, 1, 1, 1] ![0, 0, 455, 0] ![0, 0, 0, 0] Nines) (q : Fin 456) :
    Ideal.hostReduceWindowAdd ![1, 1, 456, 1] ![1, 1, 1, 1] ![0, 0, 455, 0] ![0, 0, 0, 0] h x init (ix4 g e q r)
      = ((∑ k ∈ range (q.val + 1), f k : ℝ) : EReal) := by
  subst hinit
  have hg := g.isLt
  have he := e.isLt
  have hr := r.isLt
  have hq := q.isLt
  unfold Ideal.hostReduceWindowAdd Host.reduceWindow
  refine (foldl_add_eq _ _ _).trans ?_
  rw [zero_add, ← Fin.sum_univ_def]
  refine (Finset.sum_congr rfl (g := fun n : Fin Column.numel => if 455 ≤ q.val + n.val then ((f (q.val + n.val - 455) : ℝ) : EReal) else 0) fun n _ => ?_).trans ?_
  · obtain ⟨w0, w1, w2, w3⟩ := column_position n
    have hn : n.val < 456 := column_numel ▸ n.isLt
    by_cases hc : 455 ≤ q.val + n.val
    · have hin : ∀ a : Fin 4, (![0, 0, 455, 0] : Fin 4 → ℕ) a
            ≤ ((ix4 g e q r : Nines.Idx) a).val * (![1, 1, 1, 1] : Fin 4 → ℕ) a + (Column.rowMajor.symm n a).val
          ∧ ((ix4 g e q r : Nines.Idx) a).val * (![1, 1, 1, 1] : Fin 4 → ℕ) a + (Column.rowMajor.symm n a).val - (![0, 0, 455, 0] : Fin 4 → ℕ) a
            < Nines.size a := by
        intro a
        fin_cases a
        · show 0 ≤ g.val * 1 + (Column.rowMajor.symm n 0).val ∧ g.val * 1 + (Column.rowMajor.symm n 0).val - 0 < 64
          omega
        · show 0 ≤ e.val * 1 + (Column.rowMajor.symm n 1).val ∧ e.val * 1 + (Column.rowMajor.symm n 1).val - 0 < 256
          omega
        · show 455 ≤ q.val * 1 + (Column.rowMajor.symm n 2).val ∧ q.val * 1 + (Column.rowMajor.symm n 2).val - 455 < 456
          omega
        · show 0 ≤ r.val * 1 + (Column.rowMajor.symm n 3).val ∧ r.val * 1 + (Column.rowMajor.symm n 3).val - 0 < 9
          omega
      refine (dif_pos hin).trans ?_
      rw [if_pos hc]
      refine (congrArg x (funext fun a => Fin.ext ?_)).trans (hx ⟨q.val + n.val - 455, by omega⟩)
      fin_cases a
      · show g.val * 1 + (Column.rowMajor.symm n 0).val - 0 = g.val
        omega
      · show e.val * 1 + (Column.rowMajor.symm n 1).val - 0 = e.val
        omega
      · show q.val * 1 + (Column.rowMajor.symm n 2).val - 455 = q.val + n.val - 455
        omega
      · show r.val * 1 + (Column.rowMajor.symm n 3).val - 0 = r.val
        omega
    · rw [if_neg hc]
      refine dif_neg fun hin => hc ?_
      have h2 : 455 ≤ q.val * 1 + (Column.rowMajor.symm n 2).val := (hin 2).1
      omega
  · rw [Fin.sum_univ_eq_sum_range (fun n => if 455 ≤ q.val + n then ((f (q.val + n - 455) : ℝ) : EReal) else 0), column_numel,
      sum_window_456 (fun k => ((f k : ℝ) : EReal)) _ hq, coe_sum_range]

end Cert.Comb

end
-- ==== Proof.Reference.lean ====
/-
  The reference's result: it writes each row's stream, cuts it in rows of nine, sums down the columns and reads the sums
  back from position 4 on, which is the row's chain sums.
-/
module

public import proofs.«01_k».proof.Proof.Gen.ReferenceIdeal.Read
public import proofs.«01_k».proof.Proof.PrefixSum
public import proofs.«01_k».proof.Proof.Rows
public import proofs.«01_k».proof.Proof.Words
public import Idealize.ShloMosaic.Lib.Routing.OpsSet
public import Idealize.ShloMosaic.Lib.KernelVsHost

@[expose] public section

set_option maxRecDepth 16384
set_option maxHeartbeats 1000000

noncomputable section

namespace Cert.ReferenceIdeal.Comb

open Cert.ReferenceIdeal Cert.ReferenceIdeal.Gen Cert.ReferenceIdeal.Read Idealize.ShloMosaic Cert.Comb Cert.Words Finset

variable {x : Rows.Idx → EReal}

/-- The first scatter's entries: eight times a row's first. -/
theorem head_apply (hx : RealEntries x) (g : Fin 64) (h : Fin 256) :
    val_main_v4 (F := Ideal) x (ix2 g h) = ((8 * rowReal x g h 0 : ℝ) : EReal) := by
  have hi : idx_main_v1 (idx_main_v2 (ix2 g h)) = ix3 g h (0 : Fin 4096) := by
    have h1 := h.isLt
    funext a
    refine Fin.ext ?_
    fin_cases a
    · show (g.val * 256 + h.val) / 256 = g.val; omega
    · show (g.val * 256 + h.val) / 1 % 256 = h.val; omega
    · rfl
  rw [val_main_v4_apply, val_main_v3_apply, val_main_cst_0_apply, val_main_v2_apply, val_main_v1_apply, hi]
  show Ideal.ofBits .f32 0x41000000#32 * x (ix3 g h (0 : Fin 4096)) = _
  rw [eight, hx.row, ← EReal.coe_mul]
  rfl

/-- The second scatter's entries: eight times a row's steps. -/
theorem step_apply (hx : RealEntries x) (g : Fin 64) (h : Fin 256) (n : Fin 4095) :
    val_main_v11 (F := Ideal) x (ix3 g h n) = ((8 * (rowReal x g h (n.val + 1) - rowReal x g h n.val) : ℝ) : EReal) := by
  have e7 : idx_main_v7 (ix3 g h n) = ix3 g h (⟨n.val + 1, by omega⟩ : Fin 4096) := by
    funext a
    refine Fin.ext ?_
    fin_cases a
    · rfl
    · rfl
    · show 1 + n.val = n.val + 1; omega
  have e8 : idx_main_v8 (ix3 g h n) = ix3 g h (⟨n.val, by omega⟩ : Fin 4096) := by
    funext a
    fin_cases a <;> rfl
  rw [val_main_v11_apply, val_main_v10_apply, val_main_cst_1_apply, val_main_v9_apply, val_main_v7_apply, val_main_v8_apply, e7, e8]
  show Ideal.ofBits .f32 0x41000000#32 * (x (ix3 g h ⟨n.val + 1, _⟩) - x (ix3 g h ⟨n.val, _⟩)) = _
  rw [eight, hx.row, hx.row, ← EReal.coe_sub, ← EReal.coe_mul]

/-- An update of the first scatter lands in its own row, at position 0. -/
theorem head_lands (g g' : Fin 64) (h h' : Fin 256) (n : Fin 4104) :
    scatter_S64x256x4104_S1_S64x256_01_2_2_0.resultIdx? (ix2 g' h') (val_main_v5 (F := Ideal)) = some (ix3 g h n)
      ↔ g' = g ∧ h' = h ∧ n.val = 0 := by
  rw [Routing.resultIdx?_eq_some]
  constructor
  · intro e
    have e0 : (0 : ℤ) + (g'.val : ℤ) = (g.val : ℤ) := e 0
    have e1 : (0 : ℤ) + (h'.val : ℤ) = (h.val : ℤ) := e 1
    have e2 : (0 : ℤ) + ((0 : ℕ) : ℤ) = (n.val : ℤ) := e 2
    exact ⟨Fin.ext (by omega), Fin.ext (by omega), by omega⟩
  · rintro ⟨rfl, rfl, hn⟩ a
    fin_cases a
    · show (0 : ℤ) + (g'.val : ℤ) = (g'.val : ℤ); omega
    · show (0 : ℤ) + (h'.val : ℤ) = (h'.val : ℤ); omega
    · show (0 : ℤ) + ((0 : ℕ) : ℤ) = (n.val : ℤ); omega

/-- An update of the second scatter lands in its own row, five positions on. -/
theorem step_lands (g g' : Fin 64) (h h' : Fin 256) (n : Fin 4104) (k : Fin 4095) :
    scatter_S64x256x4104_S1_S64x256x4095_012_n_2_0.resultIdx? (ix3 g' h' k) (val_main_v12 (F := Ideal)) = some (ix3 g h n)
      ↔ g' = g ∧ h' = h ∧ n.val = 5 + k.val := by
  rw [Routing.resultIdx?_eq_some]
  constructor
  · intro e
    have e0 : (0 : ℤ) + (g'.val : ℤ) = (g.val : ℤ) := e 0
    have e1 : (0 : ℤ) + (h'.val : ℤ) = (h.val : ℤ) := e 1
    have e2 : (5 : ℤ) + (k.val : ℤ) = (n.val : ℤ) := e 2
    exact ⟨Fin.ext (by omega), Fin.ext (by omega), by omega⟩
  · rintro ⟨rfl, rfl, hn⟩ a
    fin_cases a
    · show (0 : ℤ) + (g'.val : ℤ) = (g'.val : ℤ); omega
    · show (0 : ℤ) + (h'.val : ℤ) = (h'.val : ℤ); omega
    · show (5 : ℤ) + (k.val : ℤ) = (n.val : ℤ); omega

/-- Every index of the first scatter's updates is a pair. -/
theorem exists_pair (k : S64x256.Idx) : ∃ (g : Fin 64) (h : Fin 256), k = ix2 g h :=
  ⟨k 0, k 1, by funext a; fin_cases a <;> rfl⟩

/-- Every index of the second scatter's updates is a triple. -/
theorem exists_triple (k : S64x256x4095.Idx) : ∃ (g : Fin 64) (h : Fin 256) (n : Fin 4095), k = ix3 g h n :=
  ⟨k 0, k 1, k 2, by funext a; fin_cases a <;> rfl⟩

/-- After the first scatter: eight times the row's first entry at position 0, zero elsewhere. -/
theorem headed_apply (hx : RealEntries x) (g : Fin 64) (h : Fin 256) (n : Fin 4104) :
    val_main_v6 (F := Ideal) x (ix3 g h n) = (((if n.val = 0 then 8 * rowReal x g h 0 else 0) : ℝ) : EReal) := by
  unfold val_main_v6
  by_cases hn : n.val = 0
  · rw [if_pos hn]
    refine Routing.scatter_set_hit _ _ _ _ _ _ (fun k hk => ?_) (ix2 g h) ((head_lands g g h h n).2 ⟨rfl, rfl, hn⟩)
    obtain ⟨g', h', rfl⟩ := exists_pair k
    obtain ⟨rfl, rfl, -⟩ := (head_lands _ _ _ _ _).1 hk
    exact head_apply hx g' h'
  · rw [if_neg hn]
    refine (Routing.scatter_set_miss _ _ _ _ _ fun k hk => ?_).trans ?_
    · obtain ⟨g', h', rfl⟩ := exists_pair k
      exact hn ((head_lands _ _ _ _ _).1 hk).2.2
    · rw [val_main_v0_apply, val_main_cst_apply]
      exact Idealize.ShloMosaic.Ideal.ofBits_zero_f32

/-- After the second scatter a row holds its stream. -/
theorem stream_apply (hx : RealEntries x) (g : Fin 64) (h : Fin 256) (n : Fin 4104) :
    val_main_v13 (F := Ideal) x (ix3 g h n) = ((stream (rowReal x g h) n.val : ℝ) : EReal) := by
  unfold val_main_v13
  by_cases hn : 5 ≤ n.val ∧ n.val < 4100
  · refine Routing.scatter_set_hit _ _ _ _ _ _ (fun k hk => ?_) (ix3 g h (⟨n.val - 5, by omega⟩ : Fin 4095))
      ((step_lands g g h h n _).2 ⟨rfl, rfl, by show n.val = 5 + (n.val - 5); omega⟩)
    obtain ⟨g', h', k, rfl⟩ := exists_triple k
    obtain ⟨rfl, rfl, hk⟩ := (step_lands _ _ _ _ _ _).1 hk
    rw [step_apply hx, stream, if_neg (by omega), if_pos hn, show n.val - 4 = k.val + 1 by omega, show n.val - 5 = k.val by omega]
  · refine (Routing.scatter_set_miss _ _ _ _ _ fun k hk => ?_).trans ?_
    · obtain ⟨g', h', k, rfl⟩ := exists_triple k
      have := ((step_lands _ _ _ _ _ _).1 hk).2.2
      have := k.isLt
      omega
    · rw [headed_apply hx, stream, if_neg hn]

/-- The padding adds nothing. -/
theorem padded_apply (hx : RealEntries x) (g : Fin 64) (h : Fin 256) (n : Fin 4104) :
    val_main_v14 (F := Ideal) x (ix3 g h n) = ((stream (rowReal x g h) n.val : ℝ) : EReal) := by
  unfold val_main_v14
  refine Eq.trans ?_ (stream_apply hx g h n)
  exact pad_apply_of_inside _ _ _ _ _ _ _ _ (ix3 g h n) fun a => by fin_cases a <;> simp

/-- In rows of nine, row `q` holds positions `9 q … 9 q + 8` of the stream. -/
theorem nines_apply (hx : RealEntries x) (g : Fin 64) (h : Fin 256) (q : Fin 456) (r : Fin 9) :
    val_main_v15 (F := Ideal) x (ix4 g h q r) = ((stream (rowReal x g h) (9 * q.val + r.val) : ℝ) : EReal) := by
  have hi : idx_main_v15 (ix4 g h q r) = ix3 g h (⟨9 * q.val + r.val, by omega⟩ : Fin 4104) := by
    have hh := h.isLt
    funext a
    refine Fin.ext ?_
    fin_cases a
    · show (((g.val * 256 + h.val) * 456 + q.val) * 9 + r.val) / 1050624 = g.val; omega
    · show (((g.val * 256 + h.val) * 456 + q.val) * 9 + r.val) / 4104 % 256 = h.val; omega
    · show (((g.val * 256 + h.val) * 456 + q.val) * 9 + r.val) % 4104 = 9 * q.val + r.val; omega
  rw [val_main_v15_apply, hi, padded_apply hx]

/-- Row `q` of the running sums. -/
theorem sums_apply (hx : RealEntries x) (g : Fin 64) (h : Fin 256) (q : Fin 456) (r : Fin 9) :
    val_main_v16 (F := Ideal) x (ix4 g h q r)
      = ((∑ k ∈ range (q.val + 1), stream (rowReal x g h) (9 * k + r.val) : ℝ) : EReal) := by
  unfold val_main_v16
  refine windowSum_apply _ _ ?_ g h r (fun k => stream (rowReal x g h) (9 * k + r.val)) (fun k => nines_apply hx g h k r)
    reduceWindows_S64x256x456x9_S64x256x456x9_w1s1p0_0_w1s1p0_0_w456s1p455_0_w1s1p0_0 q
  rw [val_main_call1_call0_v0_apply, val_main_call1_call0_cst_apply]
  exact Idealize.ShloMosaic.Ideal.ofBits_zero_f32

/-- **The reference's result** is the chain sums of the input's rows. -/
theorem result (hx : RealEntries x) : val_main_v18 (F := Ideal) x = combed x := by
  funext i
  obtain ⟨g, h, t, rfl⟩ : ∃ (g : Fin 64) (h : Fin 256) (t : Fin 4096), i = ix3 g h t := ⟨i 0, i 1, i 2, by funext a; fin_cases a <;> rfl⟩
  have hh := h.isLt
  have ht := t.isLt
  have hi : idx_main_v17 (idx_main_v18 (ix3 g h t))
      = ix4 g h (⟨(t.val + 4) / 9, by omega⟩ : Fin 456) (⟨(t.val + 4) % 9, by omega⟩ : Fin 9) := by
    funext a
    refine Fin.ext ?_
    fin_cases a
    · show ((g.val * 256 + h.val) * 4104 + (4 + t.val)) / 1050624 = g.val; omega
    · show ((g.val * 256 + h.val) * 4104 + (4 + t.val)) / 4104 % 256 = h.val; omega
    · show ((g.val * 256 + h.val) * 4104 + (4 + t.val)) / 9 % 456 = (t.val + 4) / 9; omega
    · show ((g.val * 256 + h.val) * 4104 + (4 + t.val)) % 9 = (t.val + 4) % 9; omega
  rw [val_main_v18_apply, val_main_v17_apply, hi, sums_apply hx]
  rfl

end Cert.ReferenceIdeal.Comb

end
-- ==== Proof.lean ====
/-
  The certificate. Both programs end with each row's chain sums (`Comb.combed`): the kernel by blocks of 512 rows
  (Proof/Array.lean), the reference by its stream and running sums (Proof/Reference.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Rows
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The one shape relation the precondition states: a scalar spreads over the input's shape. -/
theorem pre_facts : Cert.Pre_finite.Facts where
  bcast_S_S64x256x4096 := by decide

instance : Cert.Pre_finite.Facts := pre_facts

/-- The reference runs, leaves its input unchanged, and ends with every counter at zero: it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems rfl r.2⟩) (Cert.ReferenceIdeal.Value.run m g)

/-- **The value claim**: of an input of finite numbers, the kernel and the reference end with equal results. -/
theorem algebraic : Cert.algebraic_KernelIdeal_ReferenceIdeal_pre_finite := by
  intro m g m' g' hpre hagree
  have hx : ∀ c, Cert.Comb.RealEntries (Cert.KernelIdeal.Array.input m c) := fun c => Cert.Comb.realEntries_of_finite _ (hpre c)
  refine ⟨fun c => Cert.Comb.combed (Cert.KernelIdeal.Array.input m c), Cert.KernelIdeal.Array.run m hx g, ?_⟩
  refine (θ_run _ _ _).mono (fun r h c => ⟨(h c).1.trans ?_, (h c).2⟩) (Cert.ReferenceIdeal.Value.run m' g')
  refine (Cert.ReferenceIdeal.Read.val_main_v18_eq (F := Ideal) _).trans ?_
  rw [hagree c]
  exact Cert.ReferenceIdeal.Comb.result (hx c)

theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
